-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1280x1024 : Shape := ⟨3, ![12, 1280, 1024]⟩
abbrev S12x1280 : Shape := ⟨2, ![12, 1280]⟩
abbrev S1024x1792 : Shape := ⟨2, ![1024, 1792]⟩
abbrev S1024x112 : Shape := ⟨2, ![1024, 112]⟩
abbrev S1024 : Shape := ⟨1, ![1024]⟩
abbrev S15360x1024 : Shape := ⟨2, ![15360, 1024]⟩
abbrev S24x1x640 : Shape := ⟨3, ![24, 1, 640]⟩
abbrev S1x1024 : Shape := ⟨2, ![1, 1024]⟩
abbrev S15360x3584 : Shape := ⟨2, ![15360, 3584]⟩
abbrev S640x1024 : Shape := ⟨2, ![640, 1024]⟩
abbrev S1x1x640 : Shape := ⟨3, ![1, 1, 640]⟩
abbrev S640x3584 : Shape := ⟨2, ![640, 3584]⟩
abbrev S1024x3584 : Shape := ⟨2, ![1024, 3584]⟩
abbrev S1024x128 : Shape := ⟨2, ![1024, 128]⟩
abbrev S1x128 : Shape := ⟨2, ![1, 128]⟩
abbrev S128x128 : Shape := ⟨2, ![128, 128]⟩
abbrev S256x128 : Shape := ⟨2, ![256, 128]⟩
abbrev S256x128x1 : Shape := ⟨3, ![256, 128, 1]⟩
abbrev S1x1x128 : Shape := ⟨3, ![1, 1, 128]⟩
abbrev S640x128 : Shape := ⟨2, ![640, 128]⟩
abbrev S640x512 : Shape := ⟨2, ![640, 512]⟩
abbrev S1024x512 : Shape := ⟨2, ![1024, 512]⟩

abbrev nBuf : Space → Nat
  | .hbm => 9
  | .vmem => 11
  | .smem => 0
  | _ => 0

abbrev bufTy : (tb : Table) → Fin (tcTables nBuf tb) → BufTy
  | .hbm, ⟨0, _⟩ => ⟨S12x1280x1024, .fp8e5m2⟩
  | .hbm, ⟨1, _⟩ => ⟨S12x1280, .f32⟩
  | .hbm, ⟨2, _⟩ => ⟨S1024x1792, .fp8e4m3⟩
  | .hbm, ⟨3, _⟩ => ⟨S1024x112, .i32⟩
  | .hbm, ⟨4, _⟩ => ⟨S1024, .f32⟩
  | .hbm, ⟨5, _⟩ => ⟨S15360x1024, .fp8e5m2⟩
  | .hbm, ⟨6, _⟩ => ⟨S24x1x640, .f32⟩
  | .hbm, ⟨7, _⟩ => ⟨S1x1024, .f32⟩
  | .hbm, ⟨8, _⟩ => ⟨S15360x3584, .bf16⟩
  | .local _ .vmem, ⟨0, _⟩ => ⟨S640x1024, .fp8e5m2⟩
  | .local _ .vmem, ⟨1, _⟩ => ⟨S640x1024, .fp8e5m2⟩
  | .local _ .vmem, ⟨2, _⟩ => ⟨S1x1x640, .f32⟩
  | .local _ .vmem, ⟨3, _⟩ => ⟨S1x1x640, .f32⟩
  | .local _ .vmem, ⟨4, _⟩ => ⟨S1024x1792, .fp8e4m3⟩
  | .local _ .vmem, ⟨5, _⟩ => ⟨S1024x112, .i32⟩
  | .local _ .vmem, ⟨6, _⟩ => ⟨S1x1024, .f32⟩
  | .local _ .vmem, ⟨7, _⟩ => ⟨S640x3584, .bf16⟩
  | .local _ .vmem, ⟨8, _⟩ => ⟨S640x3584, .bf16⟩
  | .local _ .vmem, ⟨9, _⟩ => ⟨S1024x3584, .bf16⟩
  | .local _ .vmem, ⟨10, _⟩ => ⟨S1024x128, .i32⟩
  | _, _ => ⟨S12x1280x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x112 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12x1280x1024 : Shape := ⟨3, ![12, 1280, 1024]⟩
abbrev S12x1280 : Shape := ⟨2, ![12, 1280]⟩
abbrev S1024x1792 : Shape := ⟨2, ![1024, 1792]⟩
abbrev S1024x112 : Shape := ⟨2, ![1024, 112]⟩
abbrev S1024 : Shape := ⟨1, ![1024]⟩
abbrev S16 : Shape := ⟨1, ![16]⟩
abbrev S_ : Shape := ⟨0, ![]⟩
abbrev S1024x112x1 : Shape := ⟨3, ![1024, 112, 1]⟩
abbrev S1x1x16 : Shape := ⟨3, ![1, 1, 16]⟩
abbrev S1024x112x16 : Shape := ⟨3, ![1024, 112, 16]⟩
abbrev S1024x896x2 : Shape := ⟨3, ![1024, 896, 2]⟩
abbrev S4 : Shape := ⟨1, ![4]⟩
abbrev S1024x896x1 : Shape := ⟨3, ![1024, 896, 1]⟩
abbrev S1x1x4 : Shape := ⟨3, ![1, 1, 4]⟩
abbrev S1024x896x4 : Shape := ⟨3, ![1024, 896, 4]⟩
abbrev S1024x3584 : Shape := ⟨2, ![1024, 3584]⟩
abbrev S1024x1 : Shape := ⟨2, ![1024, 1]⟩
abbrev S12x1280x3584 : Shape := ⟨3, ![12, 1280, 3584]⟩
abbrev S12x1280x1 : Shape := ⟨3, ![12, 1280, 1]⟩
abbrev S15360x3584 : Shape := ⟨2, ![15360, 3584]⟩

abbrev nBuf : Space → Nat
  | .hbm => 56
  | .vmem => 4
  | .smem => 0
  | _ => 0

abbrev bufTy : (tb : Table) → Fin (tcTables nBuf tb) → BufTy
  | .hbm, ⟨0, _⟩ => ⟨S12x1280x1024, .fp8e5m2⟩
  | .hbm, ⟨1, _⟩ => ⟨S12x1280, .f32⟩
  | .hbm, ⟨2, _⟩ => ⟨S1024x1792, .fp8e4m3⟩
  | .hbm, ⟨3, _⟩ => ⟨S1024x112, .i32⟩
  | .hbm, ⟨4, _⟩ => ⟨S1024, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S1024x112x1, .i32⟩
  | .hbm, ⟨10, _⟩ => ⟨S1x1x16, .i32⟩
  | .hbm, ⟨11, _⟩ => ⟨S1024x112x16, .i32⟩
  | .hbm, ⟨12, _⟩ => ⟨S1024x112x16, .i32⟩
  | .hbm, ⟨13, _⟩ => ⟨S1024x112x16, .i32⟩
  | .hbm, ⟨14, _⟩ => ⟨S_, .i32⟩
  | .hbm, ⟨15, _⟩ => ⟨S1024x112x16, .i32⟩
  | .hbm, ⟨16, _⟩ => ⟨S1024x112x16, .i32⟩
  | .hbm, ⟨17, _⟩ => ⟨S1024x896x2, .i32⟩
  | .hbm, ⟨18, _⟩ => ⟨S12x1280x1024, .bf16⟩
  | .hbm, ⟨19, _⟩ => ⟨S1024x1792, .bf16⟩
  | .hbm, ⟨20, _⟩ => ⟨S1024x896x2, .bf16⟩
  | .hbm, ⟨21, _⟩ => ⟨S4, .i32⟩
  | .hbm, ⟨22, _⟩ => ⟨S1024x896x1, .i32⟩
  | .hbm, ⟨23, _⟩ => ⟨S1x1x4, .i32⟩
  | .hbm, ⟨24, _⟩ => ⟨S1024x896x4, .i32⟩
  | .hbm, ⟨25, _⟩ => ⟨S1024x896x4, .i32⟩
  | .hbm, ⟨26, _⟩ => ⟨S1024x896x4, .i1⟩
  | .hbm, ⟨27, _⟩ => ⟨S1024x896x1, .bf16⟩
  | .hbm, ⟨28, _⟩ => ⟨S_, .i32⟩
  | .hbm, ⟨29, _⟩ => ⟨S_, .bf16⟩
  | .hbm, ⟨30, _⟩ => ⟨S1024x896x4, .bf16⟩
  | .hbm, ⟨31, _⟩ => ⟨S1024x896x4, .bf16⟩
  | .hbm, ⟨32, _⟩ => ⟨S1024x896x4, .bf16⟩
  | .hbm, ⟨33, _⟩ => ⟨S1024x896x1, .i32⟩
  | .hbm, ⟨34, _⟩ => ⟨S1x1x4, .i32⟩
  | .hbm, ⟨35, _⟩ => ⟨S1024x896x4, .i32⟩
  | .hbm, ⟨36, _⟩ => ⟨S1024x896x4, .i32⟩
  | .hbm, ⟨37, _⟩ => ⟨S1024x896x4, .i1⟩
  | .hbm, ⟨38, _⟩ => ⟨S1024x896x1, .bf16⟩
  | .hbm, ⟨39, _⟩ => ⟨S_, .i32⟩
  | .hbm, ⟨40, _⟩ => ⟨S_, .bf16⟩
  | .hbm, ⟨41, _⟩ => ⟨S1024x896x4, .bf16⟩
  | .hbm, ⟨42, _⟩ => ⟨S1024x896x4, .bf16⟩
  | .hbm, ⟨43, _⟩ => ⟨S1024x896x4, .bf16⟩
  | .hbm, ⟨44, _⟩ => ⟨S1024x896x4, .bf16⟩
  | .hbm, ⟨45, _⟩ => ⟨S1024x3584, .bf16⟩
  | .hbm, ⟨46, _⟩ => ⟨S1024, .bf16⟩
  | .hbm, ⟨47, _⟩ => ⟨S1024x1, .bf16⟩
  | .hbm, ⟨48, _⟩ => ⟨S1024x3584, .bf16⟩
  | .hbm, ⟨49, _⟩ => ⟨S1024x3584, .bf16⟩
  | .hbm, ⟨50, _⟩ => ⟨S12x1280x3584, .f32⟩
  | .hbm, ⟨51, _⟩ => ⟨S12x1280x1, .f32⟩
  | .hbm, ⟨52, _⟩ => ⟨S12x1280x3584, .f32⟩
  | .hbm, ⟨53, _⟩ => ⟨S12x1280x3584, .f32⟩
  | .hbm, ⟨54, _⟩ => ⟨S12x1280x3584, .bf16⟩
  | .hbm, ⟨55, _⟩ => ⟨S15360x3584, .bf16⟩
  | .local _ .vmem, ⟨0, _⟩ => ⟨S12x1280x1024, .fp8e5m2⟩
  | .local _ .vmem, ⟨1, _⟩ => ⟨S1024x1792, .fp8e4m3⟩
  | .local _ .vmem, ⟨2, _⟩ => ⟨S12x1280x1024, .bf16⟩
  | .local _ .vmem, ⟨3, _⟩ => ⟨S1024x1792, .bf16⟩
  | _, _ => ⟨S12x1280x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x1280x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BodyKernel.lean ====
/-
  The kernel body as two small loops. The printed body decodes the weight tile by tile, the 56 steps of its two nested
  loops written out one after another; here the same body is stated once per step: a decode step for the row block `r`
  and the value tile `c` (`step`), the steps in order (`decode`), then the seven column blocks of the product
  (`column`). `body_eq` says that the printed body is this program.
-/
module

public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values a step computes -/

/-- The number of each lane of a tile. -/
def lanes : IVec S256x128 32 := iota .tc S256x128 32 [1] iota_S256x128_d1_w32

/-- The lane numbers floor-divided by `k`: the truncated quotient, less one where the signs differ and the remainder is
    not zero. -/
def laneDiv (k : BitVec 32) : IVec S256x128 32 :=
  select
    (andi
      (cmpi .ne
        (subi (extui 32 (cmpi .sgt lanes (broadcast S256x128 0#32)) natLt_1_32)
          (extui 32 (cmpi .slt lanes (broadcast S256x128 0#32)) natLt_1_32))
        (broadcast S256x128 (Scalar.subi (Scalar.extui (Scalar.cmpi .sgt k 0#32)) (Scalar.extui (Scalar.cmpi .slt k 0#32)))))
      (cmpi .ne (remsi lanes (broadcast S256x128 k)) (broadcast S256x128 0#32)))
    (subi (divsi lanes (broadcast S256x128 k)) (broadcast S256x128 1#32))
    (divsi lanes (broadcast S256x128 k))

/-- A lane index, a negative one counted from the end. -/
def wrap (x : IVec S256x128 32) : IVec S256x128 32 :=
  shapeCast S256x128
    (shapeCast S256x128x1
      (select (cmpi .slt x (broadcast S256x128 0#32)) (addi x (broadcast S256x128 128#32)) x)
      shapeCasts_S256x128_S256x128x1)
    shapeCasts_S256x128x1_S256x128

/-- The lane of the first kept value of each lane's group, `h` the offset of the half tile. -/
def firstLane (h : BitVec 32) : IVec S256x128 32 :=
  addi (muli (broadcast S256x128 2#32) (laneDiv 4#32)) (broadcast S256x128 h)

/-- The position bits of each lane's group, shifted down: from the tile of words `mt`, the first word at `w`. -/
def groupBits (w : BitVec 32) (mt : IVec S256x128 32) : IVec S256x128 32 :=
  shrsi (dynamicGather 1 mt (wrap (addi (laneDiv 32#32) (broadcast S256x128 w))))
    (muli (broadcast S256x128 4#32) (andi (laneDiv 4#32) (broadcast S256x128 7#32)))

/-- The position of each lane in its group of four. -/
def place : IVec S256x128 32 := andi lanes (broadcast S256x128 3#32)

/-- One dense tile of the scaled weight: per lane the kept value whose position is the lane's, times the row's scale. -/
def dec (h w : BitVec 32) (v : FVec F S256x128 .f32) (mt : IVec S256x128 32) (ws : FVec F S256x128 .f32) :
    FVec F S256x128 .bf16 :=
  shapeCast S256x128
    (truncf .bf16
      (mulf
        (extf .f32
          (truncf .bf16
            (addf
              (select (cmpi .eq (andi (groupBits w mt) (broadcast S256x128 3#32)) place)
                (dynamicGather 1 v (wrap (firstLane h))) (broadcast S256x128 (Scalar.ofBits .f32 0x00000000#32)))
              (select (cmpi .eq (andi (shrsi (groupBits w mt) (broadcast S256x128 2#32)) (broadcast S256x128 3#32)) place)
                (dynamicGather 1 v (wrap (addi (firstLane h) (broadcast S256x128 1#32))))
                (broadcast S256x128 (Scalar.ofBits .f32 0x00000000#32))))
            bitsLt_bf16_f32)
          bitsLt_bf16_f32)
        ws)
      bitsLt_bf16_f32)
    shapeCasts_S256x128_S256x128

/-- A row of 128 weight scales, rounded, as a column over 128 lanes. -/
def scaleCol (s : Vec F S1x128 .f32) : FVec F S128x128 .f32 :=
  transpose S128x128 [1, 0]
    (broadcastTo S128x128
      (shapeCast S1x128 (extf .f32 (truncf .bf16 (shapeCast S1x128 s shapeCasts_S1x128_S1x128) bitsLt_bf16_f32) bitsLt_bf16_f32)
        shapeCasts_S1x128_S1x128)
      broadcasts_S1x128_S128x128)
    transposes_S128x128_p1_0_S128x128

/-- The scales of 256 rows of the weight. -/
def scaleCols (s₀ s₁ : Vec F S1x128 .f32) : FVec F S256x128 .f32 :=
  concatenate S256x128 0 [⟨S128x128, scaleCol s₀⟩, ⟨S128x128, scaleCol s₁⟩] concatenates_S128x128_S128x128_S256x128_d0

/-- A row of 128 output scales as a column over 128 lanes. -/
def rowCol (s : Vec F S1x1x128 .f32) : FVec F S128x128 .f32 :=
  transpose S128x128 [1, 0]
    (broadcastTo S128x128 (shapeCast S1x128 (shapeCast S1x128 s shapeCasts_S1x1x128_S1x128) shapeCasts_S1x128_S1x128)
      broadcasts_S1x128_S128x128)
    transposes_S128x128_p1_0_S128x128

/-- The output scales of the block's 640 rows over 128 lanes. -/
def rowCols (s₀ s₁ s₂ s₃ s₄ : Vec F S1x1x128 .f32) : FVec F S640x128 .f32 :=
  concatenate S640x128 0 [⟨S128x128, rowCol s₀⟩, ⟨S128x128, rowCol s₁⟩, ⟨S128x128, rowCol s₂⟩, ⟨S128x128, rowCol s₃⟩, ⟨S128x128, rowCol s₄⟩]
    concatenates_S128x128_S128x128_S128x128_S128x128_S128x128_S640x128_d0

/-- … and over 512. -/
def rowScale (s₀ s₁ s₂ s₃ s₄ : Vec F S1x1x128 .f32) : FVec F S640x512 .f32 :=
  concatenate S640x512 1 [⟨S640x128, rowCols s₀ s₁ s₂ s₃ s₄⟩, ⟨S640x128, rowCols s₀ s₁ s₂ s₃ s₄⟩, ⟨S640x128, rowCols s₀ s₁ s₂ s₃ s₄⟩, ⟨S640x128, rowCols s₀ s₁ s₂ s₃ s₄⟩]
    concatenates_S640x128_S640x128_S640x128_S640x128_S640x512_d1

/-- The block of gradient codes, widened. -/
def dyWide (v : Vec F S640x1024 .fp8e5m2) : FVec F S640x1024 .bf16 :=
  extf .bf16 (shapeCast S640x1024 v shapeCasts_S640x1024_S640x1024) bitsLt_fp8e5m2_bf16

/-- One column block of the result: the product with 512 columns of the weight, scaled by rows, rounded. -/
def colOut (sc : FVec F S640x512 .f32) (dy : FVec F S640x1024 .bf16) (w : Vec F S1024x512 .bf16) : FVec F S640x512 .bf16 :=
  truncf .bf16
    (mulf (matmul dot_S640x1024_S1024x512_S640x512_1_0_0_1_n_n none dy w (constant S640x512 .f32 0x00000000#32)) sc)
    bitsLt_bf16_f32

/-! ## The rectangles -/

/-- The tile of row block `r` and column tile `q` lies in the weight. -/
theorem inbW (r : Fin 4) (q : ℕ) (hq : q < 28) : ∀ a, (![256 * r.val, 128 * q] : Fin 2 → ℕ) a + S256x128.size a ≤ S1024x3584.size a := by
  intro a
  have h0 : S256x128.size 0 = 256 := rfl
  have h1 : S256x128.size 1 = 128 := rfl
  have h2 : S1024x3584.size 0 = 1024 := rfl
  have h3 : S1024x3584.size 1 = 3584 := rfl
  have := r.isLt
  match a with
  | 0 => show 256 * r.val + _ ≤ _; omega
  | 1 => show 128 * q + _ ≤ _; omega

theorem inbV (r : Fin 4) (c : Fin 14) : ∀ a, (![256 * r.val, 128 * c.val] : Fin 2 → ℕ) a + S256x128.size a ≤ S1024x1792.size a := by
  intro a
  have h0 : S256x128.size 0 = 256 := rfl
  have h1 : S256x128.size 1 = 128 := rfl
  have h2 : S1024x1792.size 0 = 1024 := rfl
  have h3 : S1024x1792.size 1 = 1792 := rfl
  have := r.isLt
  have := c.isLt
  match a with
  | 0 => show 256 * r.val + _ ≤ _; omega
  | 1 => show 128 * c.val + _ ≤ _; omega

theorem inbM (r : Fin 4) : ∀ a, (![256 * r.val, 0] : Fin 2 → ℕ) a + S256x128.size a ≤ S1024x128.size a := by
  intro a
  have h0 : S256x128.size 0 = 256 := rfl
  have h1 : S256x128.size 1 = 128 := rfl
  have h2 : S1024x128.size 0 = 1024 := rfl
  have h3 : S1024x128.size 1 = 128 := rfl
  have := r.isLt
  match a with
  | 0 => show 256 * r.val + _ ≤ _; omega
  | 1 => show 0 + _ ≤ _; omega

theorem inbS (n : ℕ) (hn : n < 8) : ∀ a, (![0, 128 * n] : Fin 2 → ℕ) a + S1x128.size a ≤ S1x1024.size a := by
  intro a
  have h0 : S1x128.size 0 = 1 := rfl
  have h1 : S1x128.size 1 = 128 := rfl
  have h2 : S1x1024.size 0 = 1 := rfl
  have h3 : S1x1024.size 1 = 1024 := rfl
  match a with
  | 0 => show 0 + _ ≤ _; omega
  | 1 => show 128 * n + _ ≤ _; omega

theorem inbC (j : Fin 7) : ∀ a, (![0, 512 * j.val] : Fin 2 → ℕ) a + S1024x512.size a ≤ S1024x3584.size a := by
  intro a
  have h0 : S1024x512.size 0 = 1024 := rfl
  have h1 : S1024x512.size 1 = 512 := rfl
  have h2 : S1024x3584.size 0 = 1024 := rfl
  have h3 : S1024x3584.size 1 = 3584 := rfl
  have := j.isLt
  match a with
  | 0 => show 0 + _ ≤ _; omega
  | 1 => show 512 * j.val + _ ≤ _; omega

theorem inbO (j : Fin 7) : ∀ a, (![0, 512 * j.val] : Fin 2 → ℕ) a + S640x512.size a ≤ S640x3584.size a := by
  intro a
  have h0 : S640x512.size 0 = 640 := rfl
  have h1 : S640x512.size 1 = 512 := rfl
  have h2 : S640x3584.size 0 = 640 := rfl
  have h3 : S640x3584.size 1 = 3584 := rfl
  have := j.isLt
  match a with
  | 0 => show 0 + _ ≤ _; omega
  | 1 => show 512 * j.val + _ ≤ _; omega

/-- The tile of the weight at row block `r`, column tile `q`. -/
abbrev rW (r : Fin 4) (q : ℕ) (hq : q < 28) : Rect S1024x3584 := Rect.unit (s := S1024x3584) ![256 * r.val, 128 * q] S256x128.size (inbW r q hq)
/-- The tile of the kept values at row block `r`, column tile `c`. -/
abbrev rV (r : Fin 4) (c : Fin 14) : Rect S1024x1792 := Rect.unit (s := S1024x1792) ![256 * r.val, 128 * c.val] S256x128.size (inbV r c)
/-- The position words of row block `r`. -/
abbrev rM (r : Fin 4) : Rect S1024x128 := Rect.unit (s := S1024x128) ![256 * r.val, 0] S256x128.size (inbM r)
/-- The `n`-th 128 weight scales. -/
abbrev rS (n : ℕ) (hn : n < 8) : Rect S1x1024 := Rect.unit (s := S1x1024) ![0, 128 * n] S1x128.size (inbS n hn)
/-- The `j`-th 512 columns of the weight. -/
abbrev rC (j : Fin 7) : Rect S1024x3584 := Rect.unit (s := S1024x3584) ![0, 512 * j.val] S1024x512.size (inbC j)
/-- The `j`-th 512 columns of the result block. -/
abbrev rO (j : Fin 7) : Rect S640x3584 := Rect.unit (s := S640x3584) ![0, 512 * j.val] S640x512.size (inbO j)

/-- A weight tile's rows fill whole packed words. -/
theorem packedW (r : Fin 4) (q : ℕ) (hq : q < 28) : (rW r q hq).PackedRows (EltTy.packing .bf16) := by
  have h : ∀ (r : Fin 4) (q : Fin 28), (rW r q.val q.isLt).PackedRows (EltTy.packing .bf16) := by decide
  exact h r ⟨q, hq⟩

theorem packedO (j : Fin 7) : (rO j).PackedRows (EltTy.packing .bf16) := by
  revert j; decide

theorem halfTile_lt (c : Fin 14) (h : Fin 2) : 2 * c.val + h.val < 28 := by omega

theorem scaleLo_lt (r : Fin 4) : 2 * r.val < 8 := by omega
theorem scaleHi_lt (r : Fin 4) : 2 * r.val + 1 < 8 := by omega

/-! ## The program -/

section Program

variable (arg1 : Memref sig .tc .vmem S640x1024 .fp8e5m2) (arg2 : Memref sig .tc .vmem S1x1x640 .f32)
  (arg3 : Memref sig .tc .vmem S1024x1792 .fp8e4m3) (arg4 : Memref sig .tc .vmem S1024x112 .i32)
  (arg5 : Memref sig .tc .vmem S1x1024 .f32) (arg6 : Memref sig .tc .vmem S640x3584 .bf16) (harg6 : arg6.IsWhole)
  (arg7 : Memref sig .tc .vmem S1024x3584 .bf16) (harg7 : arg7.IsWhole) (arg8 : Memref sig .tc .vmem S1024x128 .i32)

/-- The programs of a list run in order. -/
def inOrder {α : Type} (f : α → Prog (TpuEff nD τ sig (Elt F) Λ₀ .tc) PUnit) : List α → Prog (TpuEff nD τ sig (Elt F) Λ₀ .tc) PUnit
  | [] => pure ⟨⟩
  | a :: l => f a >>= fun _ => inOrder f l

/-- A weight tile's store (a load of the tile, its value unused, stands before it). -/
def put (r : Fin 4) (q : ℕ) (hq : q < 28) (x : FVec F S256x128 .bf16) : Prog (TpuEff nD τ sig (Elt F) Λ₀ .tc) PUnit := do
  let _ : Vec F S256x128 .bf16 ← Prog.lift (.load arg7 (rW r q hq).toLoadRect (View.loadsAt_vmem h_S256x128))
  Prog.lift (.store arg7 (rW r q hq) x Finset.univ (View.stores_vmem h_S256x128 (harg7.storeExact_slice rfl _ (packedW r q hq)) (fun _ => rfl)) (.inl rfl))

/-- A decode step: one tile of kept values gives two tiles of the weight. -/
def step (r : Fin 4) (ws : FVec F S256x128 .f32) (mt : Vec F S256x128 .i32) (c : Fin 14) : Prog (TpuEff nD τ sig (Elt F) Λ₀ .tc) PUnit := do
  let v : Vec F S256x128 .fp8e4m3 ← Prog.lift (.load arg3 (rV r c).toLoadRect (View.loadsAt_vmem h_S256x128))
  put arg7 harg7 r (2 * c.val + 0) (halfTile_lt c 0) (dec (BitVec.ofNat 32 (64 * 0)) (BitVec.ofNat 32 (4 * (2 * c.val + 0))) (extf .f32 v bitsLt_fp8e4m3_f32) mt ws)
  put arg7 harg7 r (2 * c.val + 1) (halfTile_lt c 1) (dec (BitVec.ofNat 32 (64 * 1)) (BitVec.ofNat 32 (4 * (2 * c.val + 1))) (extf .f32 v bitsLt_fp8e4m3_f32) mt ws)

/-- The decode of 256 rows of the weight. -/
def rows (r : Fin 4) : Prog (TpuEff nD τ sig (Elt F) Λ₀ .tc) PUnit := do
  let s₀ : Vec F S1x128 .f32 ← Prog.lift (.load arg5 (rS (2 * r.val) (scaleLo_lt r)).toLoadRect (View.loadsAt_vmem h_S1x128))
  let s₁ : Vec F S1x128 .f32 ← Prog.lift (.load arg5 (rS (2 * r.val + 1) (scaleHi_lt r)).toLoadRect (View.loadsAt_vmem h_S1x128))
  let mt : Vec F S256x128 .i32 ← Prog.lift (.load arg8 (rM r).toLoadRect (View.loadsAt_vmem h_S256x128))
  inOrder (step arg3 arg7 harg7 r (scaleCols s₀ s₁) mt) [0, 1, 2, 3, 4, 5, 6, 7, 8, 9, 10, 11, 12, 13]

/-- The decode of the whole weight, after the position words are copied beside 16 spare columns. -/
def decode : Prog (TpuEff nD τ sig (Elt F) Λ₀ .tc) PUnit := do
  let mw : Vec F S1024x112 .i32 ← Prog.lift (.load arg4 (Rect.unit (s := S1024x112) ![0, 0] S1024x112.size inb_S1024x112_S1024x112_0_0).toLoadRect (View.loadsAt_vmem h_S1024x112))
  let _ : Vec F S1024x112 .i32 ← Prog.lift (.load arg8 (Rect.unit (s := S1024x128) ![0, 0] S1024x112.size inb_S1024x128_S1024x112_0_0).toLoadRect (View.loadsAt_vmem h_S1024x112))
  Prog.lift (.store arg8 (Rect.unit (s := S1024x128) ![0, 0] S1024x112.size inb_S1024x128_S1024x112_0_0) (shapeCast S1024x112 mw shapeCasts_S1024x112_S1024x112) Finset.univ (View.stores_vmem_bits_univ h_S1024x112 rfl) (.inl rfl))
  inOrder (rows arg3 arg5 arg7 harg7 arg8) [0, 1, 2, 3]

/-- One column block of the result: loaded weight columns, the product, its store. -/
def column (sc : FVec F S640x512 .f32) (dy : FVec F S640x1024 .bf16) (j : Fin 7) : Prog (TpuEff nD τ sig (Elt F) Λ₀ .tc) PUnit := do
  let w : Vec F S1024x512 .bf16 ← Prog.lift (.load arg7 (rC j).toLoadRect (View.loadsAt_vmem h_S1024x512))
  let _ : Vec F S640x512 .bf16 ← Prog.lift (.load arg6 (rO j).toLoadRect (View.loadsAt_vmem h_S640x512))
  Prog.lift (.store arg6 (rO j) (colOut sc dy w) Finset.univ (View.stores_vmem h_S640x512 (harg6.storeExact_slice rfl _ (packedO j)) (fun _ => rfl)) (.inl rfl))

/-- The product with the decoded weight. -/
def product : Prog (TpuEff nD τ sig (Elt F) Λ₀ .tc) PUnit := do
  let s₀ : Vec F S1x1x128 .f32 ← Prog.lift (.load arg2 (Rect.unit (s := S1x1x640) ![0, 0, 0] S1x1x128.size inb_S1x1x640_S1x1x128_0_0_0).toLoadRect (View.loadsAt_vmem h_S1x1x128))
  let s₁ : Vec F S1x1x128 .f32 ← Prog.lift (.load arg2 (Rect.unit (s := S1x1x640) ![0, 0, 128] S1x1x128.size inb_S1x1x640_S1x1x128_0_0_128).toLoadRect (View.loadsAt_vmem h_S1x1x128))
  let s₂ : Vec F S1x1x128 .f32 ← Prog.lift (.load arg2 (Rect.unit (s := S1x1x640) ![0, 0, 256] S1x1x128.size inb_S1x1x640_S1x1x128_0_0_256).toLoadRect (View.loadsAt_vmem h_S1x1x128))
  let s₃ : Vec F S1x1x128 .f32 ← Prog.lift (.load arg2 (Rect.unit (s := S1x1x640) ![0, 0, 384] S1x1x128.size inb_S1x1x640_S1x1x128_0_0_384).toLoadRect (View.loadsAt_vmem h_S1x1x128))
  let s₄ : Vec F S1x1x128 .f32 ← Prog.lift (.load arg2 (Rect.unit (s := S1x1x640) ![0, 0, 512] S1x1x128.size inb_S1x1x640_S1x1x128_0_0_512).toLoadRect (View.loadsAt_vmem h_S1x1x128))
  let dy : Vec F S640x1024 .fp8e5m2 ← Prog.lift (.load arg1 (Rect.unit (s := S640x1024) ![0, 0] S640x1024.size inb_S640x1024_S640x1024_0_0).toLoadRect (View.loadsAt_vmem h_S640x1024))
  inOrder (column arg6 harg6 arg7 (rowScale s₀ s₁ s₂ s₃ s₄) (dyWide dy)) [0, 1, 2, 3, 4, 5, 6]

/-- Whether a grid point is the first, as the body asks it. -/
abbrev isFirst (i : grid0.Coords) : Prop :=
  Scalar.cmpi .ne (Scalar.extui (Scalar.cmpi .eq (BitVec.ofNat 32 (i 0).val) 0#32) : BitVec 32) 0#32 = 1#1

/-- The body up to the first product, as it is printed: the decode if the point is the first, then the loads. -/
def opening (i : grid0.Coords) : Prog (TpuEff nD τ sig (Elt F) Λ₀ .tc) (Σ' (_ : FVec F S640x512 .f32) (_ : FVec F S640x1024 .bf16), FVec F S640x512 .f32) := do
  if h : isFirst i then do
    decode arg3 arg4 arg5 arg7 harg7 arg8
    pure ⟨⟩
  else do
    pure ⟨⟩
  let s₀ : Vec F S1x1x128 .f32 ← Prog.lift (.load arg2 (Rect.unit (s := S1x1x640) ![0, 0, 0] S1x1x128.size inb_S1x1x640_S1x1x128_0_0_0).toLoadRect (View.loadsAt_vmem h_S1x1x128))
  let s₁ : Vec F S1x1x128 .f32 ← Prog.lift (.load arg2 (Rect.unit (s := S1x1x640) ![0, 0, 128] S1x1x128.size inb_S1x1x640_S1x1x128_0_0_128).toLoadRect (View.loadsAt_vmem h_S1x1x128))
  let s₂ : Vec F S1x1x128 .f32 ← Prog.lift (.load arg2 (Rect.unit (s := S1x1x640) ![0, 0, 256] S1x1x128.size inb_S1x1x640_S1x1x128_0_0_256).toLoadRect (View.loadsAt_vmem h_S1x1x128))
  let s₃ : Vec F S1x1x128 .f32 ← Prog.lift (.load arg2 (Rect.unit (s := S1x1x640) ![0, 0, 384] S1x1x128.size inb_S1x1x640_S1x1x128_0_0_384).toLoadRect (View.loadsAt_vmem h_S1x1x128))
  let s₄ : Vec F S1x1x128 .f32 ← Prog.lift (.load arg2 (Rect.unit (s := S1x1x640) ![0, 0, 512] S1x1x128.size inb_S1x1x640_S1x1x128_0_0_512).toLoadRect (View.loadsAt_vmem h_S1x1x128))
  let dy : Vec F S640x1024 .fp8e5m2 ← Prog.lift (.load arg1 (Rect.unit (s := S640x1024) ![0, 0] S640x1024.size inb_S640x1024_S640x1024_0_0).toLoadRect (View.loadsAt_vmem h_S640x1024))
  let w : Vec F S1024x512 .bf16 ← Prog.lift (.load arg7 (rC 0).toLoadRect (View.loadsAt_vmem h_S1024x512))
  pure ⟨rowScale s₀ s₁ s₂ s₃ s₄, dyWide dy,
    mulf (matmul dot_S640x1024_S1024x512_S640x512_1_0_0_1_n_n none (dyWide dy) w (constant S640x512 .f32 0x00000000#32)) (rowScale s₀ s₁ s₂ s₃ s₄)⟩

/-- The body as it is printed: the opening, the first column block's store, the other column blocks. -/
def body (i : grid0.Coords) : Prog (TpuEff nD τ sig (Elt F) Λ₀ .tc) PUnit := do
  let ⟨sc, dy, a⟩ ← opening arg1 arg2 arg3 arg4 arg5 arg7 harg7 arg8 i
  let _ : Vec F S640x512 .bf16 ← Prog.lift (.load arg6 (rO 0).toLoadRect (View.loadsAt_vmem h_S640x512))
  Prog.lift (.store arg6 (rO 0) (truncf .bf16 a bitsLt_bf16_f32) Finset.univ (View.stores_vmem h_S640x512 (harg6.storeExact_slice rfl _ (packedO 0)) (fun _ => rfl)) (.inl rfl))
  inOrder (column arg6 harg6 arg7 sc dy) [1, 2, 3, 4, 5, 6]

end Program

section Equation

variable (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)

/-- The printed body is `body`. -/
theorem body_eq :
    cc0_sparse24_dgrad (F := F) i arg1 harg1 arg2 harg2 arg3 harg3 arg4 harg4 arg5 harg5 arg6 harg6 arg7 harg7 arg8 harg8
      = body arg1 arg2 arg3 arg4 arg5 arg6 harg6 arg7 harg7 arg8 i := by
  sl_kernel_rfl

/-- At the first grid point the printed body is the decode, then the product. -/
theorem body_first (h : isFirst i) :
    cc0_sparse24_dgrad (F := F) i arg1 harg1 arg2 harg2 arg3 harg3 arg4 harg4 arg5 harg5 arg6 harg6 arg7 harg7 arg8 harg8
      = (decode arg3 arg4 arg5 arg7 harg7 arg8 >>= fun _ => product arg1 arg2 arg6 harg6 arg7) := by
  rw [body_eq]
  unfold body opening
  rw [dif_pos h]
  sl_kernel_rfl

/-- At every other grid point it is the product. -/
theorem body_later (h : ¬ isFirst i) :
    cc0_sparse24_dgrad (F := F) i arg1 harg1 arg2 harg2 arg3 harg3 arg4 harg4 arg5 harg5 arg6 harg6 arg7 harg7 arg8 harg8
      = product arg1 arg2 arg6 harg6 arg7 := by
  rw [body_eq]
  unfold body opening
  rw [dif_neg h]
  sl_kernel_rfl

end Equation

end Cert.Kernel.Body

end
-- ==== Proof.DecKernel.lean ====
module

public import proofs.«01_k».proof.Proof.BodyKernel
public import Idealize.ShloMosaic.Lib.Pointwise

@[expose] public section

set_option maxRecDepth 16384

noncomputable section

namespace Cert.Kernel.Body

open Cert.Kernel Cert.Kernel.Gen
open Idealize.ShloMosaic Idealize.ShloMosaic.TcCoe Idealize.ShloMosaic.Tactic

variable {F : FTy → Type} [FloatOps F]

/-! ## Lanes -/

/-- The lane number at an index. -/
theorem lanes_apply (i : Fin 256) (l : Fin 128) : lanes (ix2 i l) = BitVec.ofNat 32 l.val := by
  pointwise [lanes]

/-- The lane's group of four. -/
theorem laneDiv4_apply (i : Fin 256) (l : Fin 128) : laneDiv 4#32 (ix2 i l) = BitVec.ofNat 32 (l.val / 4) := by
  pointwise [laneDiv, lanes_apply]
  revert l; decide +kernel

/-- The lane's position word, counted from the tile's first. -/
theorem laneDiv32_apply (i : Fin 256) (l : Fin 128) : laneDiv 32#32 (ix2 i l) = BitVec.ofNat 32 (l.val / 32) := by
  pointwise [laneDiv, lanes_apply]
  revert l; decide +kernel

/-- The lane's position in its group. -/
theorem place_apply (i : Fin 256) (l : Fin 128) : place (ix2 i l) = BitVec.ofNat 32 (l.val % 4) := by
  pointwise [place, lanes_apply]
  revert l; decide +kernel

/-- A lane index in range is kept by the wrap. -/
theorem wrap_apply (x : IVec S256x128 32) (i : Fin 256) (l : Fin 128) (n : Fin 128) (h : x (ix2 i l) = BitVec.ofNat 32 n.val) :
    wrap x (ix2 i l) = BitVec.ofNat 32 n.val := by
  pointwise [wrap, h]
  clear h
  revert n; decide +kernel

/-- The lane the wrapped index names. -/
theorem wrap_lane (x : IVec S256x128 32) (i : Fin 256) (l : Fin 128) (n : Fin 128) (h : x (ix2 i l) = BitVec.ofNat 32 n.val) :
    (wrap x (ix2 i l)).toNat % 128 = n.val := by
  rw [wrap_apply x i l n h]
  clear h
  revert n; decide +kernel

/-- The lane of the first kept value. -/
theorem firstLane_apply (k : Fin 2) (i : Fin 256) (l : Fin 128) :
    firstLane (BitVec.ofNat 32 (64 * k.val)) (ix2 i l) = BitVec.ofNat 32 (2 * (l.val / 4) + 64 * k.val) := by
  pointwise [firstLane, laneDiv4_apply]
  revert k l; decide +kernel

/-- The lane of the second kept value. -/
theorem nextLane_apply (k : Fin 2) (i : Fin 256) (l : Fin 128) :
    addi (firstLane (BitVec.ofNat 32 (64 * k.val))) (broadcast S256x128 1#32) (ix2 i l)
      = BitVec.ofNat 32 (2 * (l.val / 4) + 64 * k.val + 1) := by
  pointwise [firstLane_apply]
  revert k l; decide +kernel

/-- The lane of the position word. -/
theorem wordLane_apply (w : Fin 109) (i : Fin 256) (l : Fin 128) :
    addi (laneDiv 32#32) (broadcast S256x128 (BitVec.ofNat 32 w.val)) (ix2 i l) = BitVec.ofNat 32 (l.val / 32 + w.val) := by
  pointwise [laneDiv32_apply]
  revert w l; decide +kernel

/-- How far the position word is shifted. -/
theorem shift_apply (i : Fin 256) (l : Fin 128) :
    IntOp.muli (4#32) (IntOp.andi (laneDiv 4#32 (ix2 i l)) 7#32) = BitVec.ofNat 32 (4 * (l.val / 4 % 8)) := by
  rw [laneDiv4_apply]
  revert l; decide +kernel

/-- The position bits at an index: the word of the lane's 32 columns, shifted to the lane's group. -/
theorem groupBits_apply (w : Fin 109) (mt : IVec S256x128 32) (i : Fin 256) (l : Fin 128) (n : Fin 128) (hn : n.val = l.val / 32 + w.val) :
    groupBits (BitVec.ofNat 32 w.val) mt (ix2 i l) = IntOp.shrsi .vector (mt (ix2 i n)) (BitVec.ofNat 32 (4 * (l.val / 4 % 8))) := by
  have hw : (wrap (addi (laneDiv 32#32) (broadcast S256x128 (BitVec.ofNat 32 w.val))) (ix2 i l)).toNat % 128 = n.val :=
    wrap_lane _ i l n (by rw [wordLane_apply, hn])
  pointwise [groupBits, hw, shift_apply]

/-! ## The weight's element -/

/-- The scaled dense weight at row `o`, column `n`: of the group's two kept values those whose position is the column's,
    added, rounded, times the row's scale, rounded. -/
def wElt (x3 : Vec F S1024x1792 .fp8e4m3) (x4 : Vec F S1024x112 .i32) (x5 : Vec F S1x1024 .f32) (o : Fin 1024) (n : Fin 3584) : F .bf16 :=
  FloatOps.truncf .bf16 bitsLt_bf16_f32
    (FloatOps.mulf
      (FloatOps.extf .f32 bitsLt_bf16_f32
        (FloatOps.truncf .bf16 bitsLt_bf16_f32
          (FloatOps.addf
            (Scalar.select
              (IntOp.cmpi .eq
                (IntOp.andi (IntOp.shrsi .vector (x4 (ix2 o ⟨n.val / 32, by omega⟩)) (BitVec.ofNat 32 (4 * (n.val / 4 % 8)))) 3#32)
                (BitVec.ofNat 32 (n.val % 4)))
              (FloatOps.extf .f32 bitsLt_fp8e4m3_f32 (x3 (ix2 o ⟨2 * (n.val / 4), by omega⟩)))
              (FloatOps.ofBits .f32 0#32))
            (Scalar.select
              (IntOp.cmpi .eq
                (IntOp.andi
                  (IntOp.shrsi .vector
                    (IntOp.shrsi .vector (x4 (ix2 o ⟨n.val / 32, by omega⟩)) (BitVec.ofNat 32 (4 * (n.val / 4 % 8)))) 2#32) 3#32)
                (BitVec.ofNat 32 (n.val % 4)))
              (FloatOps.extf .f32 bitsLt_fp8e4m3_f32 (x3 (ix2 o ⟨2 * (n.val / 4) + 1, by omega⟩)))
              (FloatOps.ofBits .f32 0#32)))))
      (FloatOps.extf .f32 bitsLt_bf16_f32 (FloatOps.truncf .bf16 bitsLt_bf16_f32 (x5 (ix2 0 o)))))

/-- A decoded tile holds the weight's elements at its place, whatever row block, value tile and half it is. -/
theorem dec_apply (x3 : Vec F S1024x1792 .fp8e4m3) (x4 : Vec F S1024x112 .i32) (x5 : Vec F S1x1024 .f32)
    (r : Fin 4) (c : Fin 14) (k : Fin 2) (v : FVec F S256x128 .f32) (mt : IVec S256x128 32) (ws : FVec F S256x128 .f32)
    (hv : ∀ (i : Fin 256) (l : Fin 128), v (ix2 i l) = FloatOps.extf .f32 bitsLt_fp8e4m3_f32 (x3 (ix2 ⟨256 * r.val + i.val, by omega⟩ ⟨128 * c.val + l.val, by omega⟩)))
    (hm : ∀ (i : Fin 256) (l : Fin 112), mt (ix2 i ⟨l.val, by omega⟩) = x4 (ix2 ⟨256 * r.val + i.val, by omega⟩ l))
    (hs : ∀ (i : Fin 256) (l : Fin 128), ws (ix2 i l) = FloatOps.extf .f32 bitsLt_bf16_f32 (FloatOps.truncf .bf16 bitsLt_bf16_f32 (x5 (ix2 0 ⟨256 * r.val + i.val, by omega⟩))))
    (i : Fin 256) (l : Fin 128) :
    dec (BitVec.ofNat 32 (64 * k.val)) (BitVec.ofNat 32 (4 * (2 * c.val + k.val))) v mt ws (ix2 i l)
      = wElt x3 x4 x5 ⟨256 * r.val + i.val, by omega⟩ ⟨128 * (2 * c.val + k.val) + l.val, by omega⟩ := by
  have h0 : (wrap (firstLane (BitVec.ofNat 32 (64 * k.val))) (ix2 i l)).toNat % 128 = 2 * (l.val / 4) + 64 * k.val :=
    wrap_lane _ i l ⟨2 * (l.val / 4) + 64 * k.val, by omega⟩ (firstLane_apply k i l)
  have h1 : (wrap (addi (firstLane (BitVec.ofNat 32 (64 * k.val))) (broadcast S256x128 1#32)) (ix2 i l)).toNat % 128
      = 2 * (l.val / 4) + 64 * k.val + 1 :=
    wrap_lane _ i l ⟨2 * (l.val / 4) + 64 * k.val + 1, by omega⟩ (nextLane_apply k i l)
  have hb : groupBits (BitVec.ofNat 32 (4 * (2 * c.val + k.val))) mt (ix2 i l)
      = IntOp.shrsi .vector (mt (ix2 i ⟨l.val / 32 + 4 * (2 * c.val + k.val), by omega⟩)) (BitVec.ofNat 32 (4 * (l.val / 4 % 8))) :=
    groupBits_apply ⟨4 * (2 * c.val + k.val), by omega⟩ mt i l _ rfl
  have hm' := hm i ⟨l.val / 32 + 4 * (2 * c.val + k.val), by omega⟩
  have e0 : (128 * (2 * c.val + k.val) + l.val) / 32 = l.val / 32 + 4 * (2 * c.val + k.val) := by omega
  have e1 : (128 * (2 * c.val + k.val) + l.val) / 4 % 8 = l.val / 4 % 8 := by omega
  have e2 : (128 * (2 * c.val + k.val) + l.val) % 4 = l.val % 4 := by omega
  have e3 : 2 * ((128 * (2 * c.val + k.val) + l.val) / 4) = 128 * c.val + (2 * (l.val / 4) + 64 * k.val) := by omega
  have e4 : 128 * c.val + (2 * (l.val / 4) + 64 * k.val) + 1 = 128 * c.val + (2 * (l.val / 4) + 64 * k.val + 1) := by omega
  unfold wElt
  simp only [e0, e1, e2, e3, e4]
  pointwise [dec, place_apply, h0, h1, hb, hs, hv]
  simp only [hm']

/-- The weight's scale columns at an index. -/
theorem scaleCols_apply (x5 : Vec F S1x1024 .f32) (r : Fin 4) (s₀ s₁ : Vec F S1x128 .f32)
    (h0 : ∀ l : Fin 128, s₀ (ix2 0 l) = x5 (ix2 0 ⟨128 * (2 * r.val) + l.val, by omega⟩))
    (h1 : ∀ l : Fin 128, s₁ (ix2 0 l) = x5 (ix2 0 ⟨128 * (2 * r.val + 1) + l.val, by omega⟩))
    (i : Fin 256) (l : Fin 128) :
    scaleCols s₀ s₁ (ix2 i l) = FloatOps.extf .f32 bitsLt_bf16_f32 (FloatOps.truncf .bf16 bitsLt_bf16_f32 (x5 (ix2 0 ⟨256 * r.val + i.val, by omega⟩))) := by
  pointwise [scaleCols, scaleCol]
  split
  · rw [h0]; congr 4; apply Fin.ext; show 128 * (2 * r.val) + i.val = 256 * r.val + i.val; omega
  · rw [h1]; congr 4; apply Fin.ext; show 128 * (2 * r.val + 1) + (i.val - 128) = 256 * r.val + i.val; omega

/-- The output scales at an index. -/
theorem rowScale_apply (d : Fin 640 → F .f32) (s₀ s₁ s₂ s₃ s₄ : Vec F S1x1x128 .f32)
    (h0 : ∀ l : Fin 128, s₀ (ix3 0 0 l) = d ⟨0 + l.val, by omega⟩)
    (h1 : ∀ l : Fin 128, s₁ (ix3 0 0 l) = d ⟨128 + l.val, by omega⟩)
    (h2 : ∀ l : Fin 128, s₂ (ix3 0 0 l) = d ⟨256 + l.val, by omega⟩)
    (h3 : ∀ l : Fin 128, s₃ (ix3 0 0 l) = d ⟨384 + l.val, by omega⟩)
    (h4 : ∀ l : Fin 128, s₄ (ix3 0 0 l) = d ⟨512 + l.val, by omega⟩)
    (i : Fin 640) (l : Fin 512) : rowScale s₀ s₁ s₂ s₃ s₄ (ix2 i l) = d i := by
  have h : ∀ l : Fin 128, rowCols s₀ s₁ s₂ s₃ s₄ (ix2 i l) = d i := by
    intro l
    pointwise [rowCols, rowCol]
    split
    · rw [h0]; congr 1; apply Fin.ext; show 0 + i.val = i.val; omega
    split
    · rw [h1]; congr 1; apply Fin.ext; show 128 + (i.val - 128) = i.val; omega
    split
    · rw [h2]; congr 1; apply Fin.ext; show 256 + (i.val - 128 - 128) = i.val; omega
    split
    · rw [h3]; congr 1; apply Fin.ext; show 384 + (i.val - 128 - 128 - 128) = i.val; omega
    · rw [h4]; congr 1; apply Fin.ext; show 512 + (i.val - 128 - 128 - 128 - 128) = i.val; omega
  pointwise [rowScale, h]
  split_ifs <;> rfl

end Cert.Kernel.Body
-- ==== Proof.StepKernel.lean ====
module

public import proofs.«01_k».proof.Proof.DecKernel
public import Idealize.ShloMosaic.Lib.Exec

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's elements held whole at contents `f` of its buffer. -/
abbrev pts (c : Dev nD) {S : Shape} {e : EltTy} (M : Memref sig .tc .vmem S e) (f : Buf (Elt F) (M.view.loc (c : Thread nD τ))) : sProp 𝕄 :=
  M.view.loc (c : Thread nD τ) ↦[M.view.set]{fullShare} f

/-- A memref held at contents that read as `T` at the indices of `D`. -/
def heldOn (c : Dev nD) {S : Shape} {e : EltTy} (M : Memref sig .tc .vmem S e) (D : S.Idx → Prop) (T : S.Idx → Elt F e) : sProp 𝕄 :=
  iprop(∃ f, ⌜∀ y, D y → M.view.read (Elt F) f y = T y⌝ ∗ pts c M f)

/-- A write of the wanted elements: what read as wanted does, and so does the written rectangle. -/
theorem read_piece {κ : Kind} {sp : Space} {S : Shape} {e : EltTy} (v : View sig κ sp S e) (f : v.ty.Contents (Elt F)) (r : Rect S)
    (w : r.shape.Idx → Elt F e) (D : S.Idx → Prop) (T : S.Idx → Elt F e)
    (hf : ∀ y, D y → v.read (Elt F) f y = T y) (hw : ∀ i, w i = T (r.emb i)) :
    ∀ y, (D y ∨ ∃ i, r.emb i = y) → v.read (Elt F) (v.writes (Elt F) f [⟨r, w⟩]) y = T y := by
  intro y hy
  by_cases hm : ∃ i, r.emb i = y
  · obtain ⟨i, rfl⟩ := hm
    exact (View.read_writes_cons_emb v f r w [] i).trans (hw i)
  · refine (View.read_writes_cons_miss v f ⟨r, w⟩ [] y ?_).trans (hf y (hy.resolve_right hm))
    intro h
    rw [← Rect.map_emb_univ] at h
    obtain ⟨i, -, hi⟩ := Finset.mem_map.mp h
    exact hm ⟨i, hi⟩

/-- A tile's store adds the tile to what is held. -/
theorem wp_put (c : Dev nD) (E : Set ℕ) (arg7 : Memref sig .tc .vmem S1024x3584 .bf16) (harg7 : arg7.IsWhole)
    (r : Fin 4) (q : ℕ) (hq : q < 28) (x : FVec F S256x128 .bf16) (D : S1024x3584.Idx → Prop) (T : S1024x3584.Idx → Elt F .bf16)
    (hx : ∀ i : S256x128.Idx, x i = T ((rW r q hq).emb i)) :
    heldOn c arg7 D T
      ⊢ wp frame (wpE (defs₀ (F := F)) Variants.none c none) E (put arg7 harg7 r q hq x)
          fun _ => heldOn c arg7 (fun y => D y ∨ ∃ i, (rW r q hq).emb i = y) T := by
  unfold put heldOn
  iintro ⟨%f, %hf, H⟩
  sl_exec
  sl_step
  iexists _; isplitr
  swap; · iexact H
  ipureintro
  exact read_piece arg7.view f (rW r q hq) x D T hf hx

/-- Programs run in order: what each one adds, the list adds. -/
theorem wp_inOrder (c : Dev nD) (E : Set ℕ) {α : Type} (f : α → Prog (TpuEff nD τ sig (Elt F) Λ₀ .tc) PUnit) (I : List α → sProp 𝕄)
    (hf : ∀ pre a, I pre ⊢ wp frame (wpE (defs₀ (F := F)) Variants.none c none) E (f a) fun _ => I (pre ++ [a]))
    (l pre : List α) :
    I pre ⊢ wp frame (wpE (defs₀ (F := F)) Variants.none c none) E (inOrder f l) fun _ => I (pre ++ l) := by
  induction l generalizing pre with
  | nil =>
    unfold inOrder
    iintro H
    sl_step
    rw [List.append_nil]
    iexact H
  | cons a l ih =>
    unfold inOrder
    rw [wp_bind]
    refine (hf pre a).trans (wp_mono _ _ _ fun _ => ?_)
    have := ih (pre ++ [a])
    rw [List.append_assoc] at this
    exact this

/-- What is held may be told by fewer indices. -/
theorem heldOn_mono (c : Dev nD) {S : Shape} {e : EltTy} (M : Memref sig .tc .vmem S e) (D D' : S.Idx → Prop) (T : S.Idx → Elt F e)
    (h : ∀ y, D' y → D y) : heldOn c M D T ⊢ heldOn c M D' T := by
  unfold heldOn
  iintro ⟨%f, %hf, H⟩
  iexists f; isplitr
  swap; · iexact H
  ipureintro
  exact fun y hy => hf y (h y hy)

/-- A decode step adds its two tiles. -/
theorem wp_step (c : Dev nD) (E : Set ℕ) (arg3 : Memref sig .tc .vmem S1024x1792 .fp8e4m3) (arg7 : Memref sig .tc .vmem S1024x3584 .bf16) (harg7 : arg7.IsWhole)
    (r : Fin 4) (ws : FVec F S256x128 .f32) (mt : Vec F S256x128 .i32) (cc : Fin 14)
    (f3 : Buf (Elt F) (arg3.view.loc (c : Thread nD τ))) (D : S1024x3584.Idx → Prop) (T : S1024x3584.Idx → Elt F .bf16)
    (hT : ∀ (k : Fin 2) (i : S256x128.Idx),
      dec (BitVec.ofNat 32 (64 * k.val)) (BitVec.ofNat 32 (4 * (2 * cc.val + k.val)))
          (extf .f32 (View.readAt (Elt F) arg3.view (rV r cc).toLoadRect f3) bitsLt_fp8e4m3_f32) mt ws i
        = T ((rW r (2 * cc.val + k.val) (halfTile_lt cc k)).emb i)) :
    iprop(pts c arg3 f3 ∗ heldOn c arg7 D T)
      ⊢ wp frame (wpE (defs₀ (F := F)) Variants.none c none) E (step arg3 arg7 harg7 r ws mt cc) fun _ =>
          iprop(pts c arg3 f3 ∗ heldOn c arg7
            (fun y => D y ∨ ∃ (k : Fin 2) (i : S256x128.Idx), (rW r (2 * cc.val + k.val) (halfTile_lt cc k)).emb i = y) T) := by
  have hmono : ∀ y : S1024x3584.Idx, (D y ∨ ∃ (k : Fin 2) (i : S256x128.Idx), (rW r (2 * cc.val + k.val) (halfTile_lt cc k)).emb i = y) →
      ((D y ∨ ∃ i, (rW r (2 * cc.val + 0) (halfTile_lt cc 0)).emb i = y) ∨ ∃ i, (rW r (2 * cc.val + 1) (halfTile_lt cc 1)).emb i = y) := by
    rintro y (h | ⟨k, i, h⟩)
    · exact .inl (.inl h)
    · match k with
      | 0 => exact .inl (.inr ⟨i, h⟩)
      | 1 => exact .inr ⟨i, h⟩
  have h0 := wp_put c E arg7 harg7 r (2 * cc.val + 0) (halfTile_lt cc 0) _ D T (hT 0)
  have h1 := wp_put c E arg7 harg7 r (2 * cc.val + 1) (halfTile_lt cc 1) _ (fun y => D y ∨ ∃ i, (rW r (2 * cc.val + 0) (halfTile_lt cc 0)).emb i = y) T (hT 1)
  have h2 := h1.trans (wp_mono _ _ _ fun _ => heldOn_mono c arg7 _ _ T hmono)
  have h3 := h0.trans (wp_mono _ _ _ fun _ => h2)
  rw [← wp_bind] at h3
  unfold step
  iintro ⟨H3, H⟩
  iapply (wp_load_rect (m := arg3) (r := rV r cc) (f := f3) (q := fullShare) Variants.none (c : Thread nD τ) none E (Memref.setOn_access_subset arg3 _ _)) $$ [H3]
  · iexact H3
  iintro H3
  iapply (wp_wand frame (wpE (defs₀ (F := F)) Variants.none (c : Thread nD τ) none) E (Q := fun _ => heldOn c arg7
            (fun y => D y ∨ ∃ (k : Fin 2) (i : S256x128.Idx), (rW r (2 * cc.val + k.val) (halfTile_lt cc k)).emb i = y) T)) $$ [H]
  · iapply h3
    iexact H
  · iintro %_ H
    isplitl [H3]
    · iexact H3
    · iexact H

end Cert.Kernel.Body
-- ==== Proof.SpecKernel.lean ====
module

public import proofs.«01_k».proof.Proof.StepKernel
public import Idealize.ShloMosaic.Lib.Exec

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What is decoded and what is stored -/

/-- The scaled dense weight. -/
def wt (x3 : Vec F S1024x1792 .fp8e4m3) (x4 : Vec F S1024x112 .i32) (x5 : Vec F S1x1024 .f32) : S1024x3584.Idx → Elt F .bf16 :=
  fun y => wElt x3 x4 x5 (y 0) (y 1)

/-- The output scales of a block over 512 columns. -/
def scOf (x2 : Vec F S1x1x640 .f32) : FVec F S640x512 .f32 :=
  rowScale (View.ld x2 (Rect.unit (s := S1x1x640) ![0, 0, 0] S1x1x128.size inb_S1x1x640_S1x1x128_0_0_0))
    (View.ld x2 (Rect.unit (s := S1x1x640) ![0, 0, 128] S1x1x128.size inb_S1x1x640_S1x1x128_0_0_128))
    (View.ld x2 (Rect.unit (s := S1x1x640) ![0, 0, 256] S1x1x128.size inb_S1x1x640_S1x1x128_0_0_256))
    (View.ld x2 (Rect.unit (s := S1x1x640) ![0, 0, 384] S1x1x128.size inb_S1x1x640_S1x1x128_0_0_384))
    (View.ld x2 (Rect.unit (s := S1x1x640) ![0, 0, 512] S1x1x128.size inb_S1x1x640_S1x1x128_0_0_512))

/-- The gradient block, widened. -/
def dyOf (x1 : Vec F S640x1024 .fp8e5m2) : FVec F S640x1024 .bf16 :=
  dyWide (View.ld x1 (Rect.unit (s := S640x1024) ![0, 0] S640x1024.size inb_S640x1024_S640x1024_0_0))

/-- The result block of a gradient block, its scales and a weight. -/
def outBlk (x1 : Vec F S640x1024 .fp8e5m2) (x2 : Vec F S1x1x640 .f32) (W : S1024x3584.Idx → Elt F .bf16) : S640x3584.Idx → Elt F .bf16 :=
  fun y => colOut (scOf x2) (dyOf x1)
    (View.ld W (rC ⟨(y 1).val / 512, by have := (y 1).isLt; have h : S640x3584.size 1 = 3584 := rfl; omega⟩))
    (ix2 (y 0) ⟨(y 1).val % 512, Nat.mod_lt _ (by omega)⟩)

/-- The weight read through a tile's rectangle. -/
theorem wt_emb (x3 : Vec F S1024x1792 .fp8e4m3) (x4 : Vec F S1024x112 .i32) (x5 : Vec F S1x1024 .f32) (r : Fin 4) (q : ℕ) (hq : q < 28)
    (i : Fin 256) (l : Fin 128) :
    wt x3 x4 x5 ((rW r q hq).emb (ix2 i l)) = wElt x3 x4 x5 ⟨256 * r.val + i.val, by omega⟩ ⟨128 * q + l.val, by omega⟩ := by
  unfold wt
  congr 1
  · apply Fin.ext; show 256 * r.val + 1 * i.val = _; rw [Nat.one_mul]
  · apply Fin.ext; show 128 * q + 1 * l.val = _; rw [Nat.one_mul]

/-- Every index of the weight lies in a tile. -/
theorem tiles_cover (y : S1024x3584.Idx) :
    ∃ (r : Fin 4) (cc : Fin 14) (k : Fin 2) (i : S256x128.Idx), (rW r (2 * cc.val + k.val) (halfTile_lt cc k)).emb i = y := by
  have h0 : (y 0).val < 1024 := (y 0).isLt
  have h1 : (y 1).val < 3584 := (y 1).isLt
  refine ⟨⟨(y 0).val / 256, by omega⟩, ⟨(y 1).val / 256, by omega⟩, ⟨(y 1).val / 128 % 2, by omega⟩,
    ix2 ⟨(y 0).val % 256, by omega⟩ ⟨(y 1).val % 128, by omega⟩, ?_⟩
  funext a
  match a with
  | 0 => apply Fin.ext; show 256 * ((y 0).val / 256) + 1 * ((y 0).val % 256) = (y 0).val; omega
  | 1 => apply Fin.ext; show 128 * (2 * ((y 1).val / 256) + (y 1).val / 128 % 2) + 1 * ((y 1).val % 128) = (y 1).val; omega

/-- Every index of the result block lies in a column block. -/
theorem cols_cover (y : S640x3584.Idx) : ∃ (j : Fin 7) (i : S640x512.Idx), (rO j).emb i = y := by
  have h0 : (y 0).val < 640 := (y 0).isLt
  have h1 : (y 1).val < 3584 := (y 1).isLt
  refine ⟨⟨(y 1).val / 512, by omega⟩, ix2 ⟨(y 0).val, h0⟩ ⟨(y 1).val % 512, by omega⟩, ?_⟩
  funext a
  match a with
  | 0 => apply Fin.ext; show 0 + 1 * (y 0).val = (y 0).val; omega
  | 1 => apply Fin.ext; show 512 * ((y 1).val / 512) + 1 * ((y 1).val % 512) = (y 1).val; omega

/-- The result block read through a column block's rectangle. -/
theorem outBlk_emb (x1 : Vec F S640x1024 .fp8e5m2) (x2 : Vec F S1x1x640 .f32) (W : S1024x3584.Idx → Elt F .bf16) (j : Fin 7) (i : Fin 640) (l : Fin 512) :
    outBlk x1 x2 W ((rO j).emb (ix2 i l)) = colOut (scOf x2) (dyOf x1) (View.ld W (rC j)) (ix2 i l) := by
  have e0 : ((rO j).emb (ix2 i l) 0).val = i.val := by show 0 + 1 * i.val = i.val; omega
  have e1 : ((rO j).emb (ix2 i l) 1).val = 512 * j.val + l.val := by show 512 * j.val + 1 * l.val = _; omega
  have hl : l.val < 512 := l.isLt
  have ej : ∀ h, (⟨((rO j).emb (ix2 i l) 1).val / 512, h⟩ : Fin 7) = j := fun h => Fin.ext (by show _ / 512 = _; rw [e1]; omega)
  have el : ∀ h, (⟨((rO j).emb (ix2 i l) 1).val % 512, h⟩ : Fin 512) = l := fun h => Fin.ext (by show _ % 512 = _; rw [e1]; omega)
  have ei : ((rO j).emb (ix2 i l) 0 : Fin 640) = i := Fin.ext e0
  unfold outBlk
  rw [ej, el]
  exact congrArg (fun a => colOut (scOf x2) (dyOf x1) (View.ld W (rC j)) (ix2 a l)) ei

/-! ## The pieces of the program -/

/-- The product's loads, before any program that takes what they read. -/
theorem wp_productLoads (c : Dev nD) (E : Set ℕ) (arg1 : Memref sig .tc .vmem S640x1024 .fp8e5m2) (arg2 : Memref sig .tc .vmem S1x1x640 .f32)
    (κ : FVec F S640x512 .f32 → FVec F S640x1024 .bf16 → Prog (TpuEff nD τ sig (Elt F) Λ₀ .tc) PUnit) (Q : PUnit → sProp 𝕄)
    (f1 : Buf (Elt F) (arg1.view.loc (c : Thread nD τ))) (f2 : Buf (Elt F) (arg2.view.loc (c : Thread nD τ))) :
    iprop(pts c arg1 f1 ∗ pts c arg2 f2 ∗ ((pts c arg1 f1 ∗ pts c arg2 f2) -∗
        wp frame (wpE (defs₀ (F := F)) Variants.none c none) E (κ (scOf (arg2.view.read (Elt F) f2)) (dyOf (arg1.view.read (Elt F) f1))) Q))
      ⊢ wp frame (wpE (defs₀ (F := F)) Variants.none c none) E (do
          let s₀ : Vec F S1x1x128 .f32 ← Prog.lift (.load arg2 (Rect.unit (s := S1x1x640) ![0, 0, 0] S1x1x128.size inb_S1x1x640_S1x1x128_0_0_0).toLoadRect (View.loadsAt_vmem h_S1x1x128))
          let s₁ : Vec F S1x1x128 .f32 ← Prog.lift (.load arg2 (Rect.unit (s := S1x1x640) ![0, 0, 128] S1x1x128.size inb_S1x1x640_S1x1x128_0_0_128).toLoadRect (View.loadsAt_vmem h_S1x1x128))
          let s₂ : Vec F S1x1x128 .f32 ← Prog.lift (.load arg2 (Rect.unit (s := S1x1x640) ![0, 0, 256] S1x1x128.size inb_S1x1x640_S1x1x128_0_0_256).toLoadRect (View.loadsAt_vmem h_S1x1x128))
          let s₃ : Vec F S1x1x128 .f32 ← Prog.lift (.load arg2 (Rect.unit (s := S1x1x640) ![0, 0, 384] S1x1x128.size inb_S1x1x640_S1x1x128_0_0_384).toLoadRect (View.loadsAt_vmem h_S1x1x128))
          let s₄ : Vec F S1x1x128 .f32 ← Prog.lift (.load arg2 (Rect.unit (s := S1x1x640) ![0, 0, 512] S1x1x128.size inb_S1x1x640_S1x1x128_0_0_512).toLoadRect (View.loadsAt_vmem h_S1x1x128))
          let dy : Vec F S640x1024 .fp8e5m2 ← Prog.lift (.load arg1 (Rect.unit (s := S640x1024) ![0, 0] S640x1024.size inb_S640x1024_S640x1024_0_0).toLoadRect (View.loadsAt_vmem h_S640x1024))
          κ (rowScale s₀ s₁ s₂ s₃ s₄) (dyWide dy)) Q := by
  iintro ⟨H1, H2, Hk⟩
  sl_exec
  iapply Hk
  isplitl [H1]
  · iexact H1
  · iexact H2

/-- The position words' copy, before any program. -/
theorem wp_copy (c : Dev nD) (E : Set ℕ) (arg4 : Memref sig .tc .vmem S1024x112 .i32) (arg8 : Memref sig .tc .vmem S1024x128 .i32)
    (κ : Prog (TpuEff nD τ sig (Elt F) Λ₀ .tc) PUnit) (Q : PUnit → sProp 𝕄)
    (f4 : Buf (Elt F) (arg4.view.loc (c : Thread nD τ))) (f8 : Buf (Elt F) (arg8.view.loc (c : Thread nD τ))) :
    iprop(pts c arg4 f4 ∗ pts c arg8 f8 ∗ (∀ g8, (pts c arg4 f4 ∗ pts c arg8 g8 ∗
          ⌜∀ (o : Fin 1024) (l : Fin 112), arg8.view.read (Elt F) g8 (ix2 o ⟨l.val, by omega⟩) = arg4.view.read (Elt F) f4 (ix2 o l)⌝) -∗
        wp frame (wpE (defs₀ (F := F)) Variants.none c none) E κ Q))
      ⊢ wp frame (wpE (defs₀ (F := F)) Variants.none c none) E (do
          let mw : Vec F S1024x112 .i32 ← Prog.lift (.load arg4 (Rect.unit (s := S1024x112) ![0, 0] S1024x112.size inb_S1024x112_S1024x112_0_0).toLoadRect (View.loadsAt_vmem h_S1024x112))
          let _ : Vec F S1024x112 .i32 ← Prog.lift (.load arg8 (Rect.unit (s := S1024x128) ![0, 0] S1024x112.size inb_S1024x128_S1024x112_0_0).toLoadRect (View.loadsAt_vmem h_S1024x112))
          Prog.lift (.store arg8 (Rect.unit (s := S1024x128) ![0, 0] S1024x112.size inb_S1024x128_S1024x112_0_0) (shapeCast S1024x112 mw shapeCasts_S1024x112_S1024x112) Finset.univ (View.stores_vmem_bits_univ h_S1024x112 rfl) (.inl rfl))
          κ) Q := by
  have h8 : ∀ (o : Fin 1024) (l : Fin 112), arg8.view.read (Elt F)
      (arg8.view.writes (Elt F) f8 [⟨Rect.unit (s := S1024x128) ![0, 0] S1024x112.size inb_S1024x128_S1024x112_0_0,
        shapeCast S1024x112 (View.readAt (Elt F) arg4.view (Rect.unit (s := S1024x112) ![0, 0] S1024x112.size inb_S1024x112_S1024x112_0_0).toLoadRect f4) shapeCasts_S1024x112_S1024x112⟩])
      (ix2 o ⟨l.val, by omega⟩) = arg4.view.read (Elt F) f4 (ix2 o l) := by
    intro o l
    refine (View.read_writes_cons_hit arg8.view f8 _ _ [] (ix2 o l) _ (funext fun b => ?_)).trans ?_
    · match b with
      | 0 => apply Fin.ext; show 0 + 1 * o.val = o.val; omega
      | 1 => apply Fin.ext; show 0 + 1 * l.val = l.val; omega
    · refine (congrFun (shapeCast_self _ _) (ix2 o l)).trans ?_
      refine congrArg (fun z => arg4.view.read (Elt F) f4 z) (funext fun b => ?_)
      match b with
      | 0 => apply Fin.ext; show 0 + 1 * o.val = o.val; omega
      | 1 => apply Fin.ext; show 0 + 1 * l.val = l.val; omega
  iintro ⟨H4, H8, Hk⟩
  sl_exec
  iapply Hk
  isplitl [H4]
  · iexact H4
  isplitl [H8]
  · iexact H8
  ipureintro
  exact h8

/-- The decode of 256 rows adds their 28 tiles. -/
theorem wp_rows (c : Dev nD) (E : Set ℕ) (arg3 : Memref sig .tc .vmem S1024x1792 .fp8e4m3) (arg5 : Memref sig .tc .vmem S1x1024 .f32)
    (arg7 : Memref sig .tc .vmem S1024x3584 .bf16) (harg7 : arg7.IsWhole) (arg8 : Memref sig .tc .vmem S1024x128 .i32) (r : Fin 4)
    (f3 : Buf (Elt F) (arg3.view.loc (c : Thread nD τ))) (f5 : Buf (Elt F) (arg5.view.loc (c : Thread nD τ))) (f8 : Buf (Elt F) (arg8.view.loc (c : Thread nD τ)))
    (x4 : Vec F S1024x112 .i32)
    (h8 : ∀ (o : Fin 1024) (l : Fin 112), arg8.view.read (Elt F) f8 (ix2 o ⟨l.val, by omega⟩) = x4 (ix2 o l))
    (D : S1024x3584.Idx → Prop) :
    iprop(pts c arg3 f3 ∗ pts c arg5 f5 ∗ pts c arg8 f8 ∗ heldOn c arg7 D (wt (arg3.view.read (Elt F) f3) x4 (arg5.view.read (Elt F) f5)))
      ⊢ wp frame (wpE (defs₀ (F := F)) Variants.none c none) E (rows arg3 arg5 arg7 harg7 arg8 r) fun _ =>
          iprop(pts c arg3 f3 ∗ pts c arg5 f5 ∗ pts c arg8 f8 ∗ heldOn c arg7
            (fun y => D y ∨ ∃ (cc : Fin 14) (k : Fin 2) (i : S256x128.Idx), (rW r (2 * cc.val + k.val) (halfTile_lt cc k)).emb i = y)
            (wt (arg3.view.read (Elt F) f3) x4 (arg5.view.read (Elt F) f5))) := by
  unfold rows
  iintro ⟨H3, H5, H8, H7⟩
  iapply (wp_load_rect (m := arg5) (r := rS (2 * r.val) (scaleLo_lt r)) (f := f5) (q := fullShare) Variants.none (c : Thread nD τ) none E (Memref.setOn_access_subset arg5 _ _)) $$ [H5]
  · iexact H5
  iintro H5
  iapply (wp_load_rect (m := arg5) (r := rS (2 * r.val + 1) (scaleHi_lt r)) (f := f5) (q := fullShare) Variants.none (c : Thread nD τ) none E (Memref.setOn_access_subset arg5 _ _)) $$ [H5]
  · iexact H5
  iintro H5
  iapply (wp_load_rect (m := arg8) (r := rM r) (f := f8) (q := fullShare) Variants.none (c : Thread nD τ) none E (Memref.setOn_access_subset arg8 _ _)) $$ [H8]
  · iexact H8
  iintro H8
  have hT : ∀ (cc : Fin 14) (k : Fin 2) (i : S256x128.Idx),
      dec (BitVec.ofNat 32 (64 * k.val)) (BitVec.ofNat 32 (4 * (2 * cc.val + k.val)))
          (extf .f32 (View.readAt (Elt F) arg3.view (rV r cc).toLoadRect f3) bitsLt_fp8e4m3_f32)
          (View.readAt (Elt F) arg8.view (rM r).toLoadRect f8)
          (scaleCols (View.readAt (Elt F) arg5.view (rS (2 * r.val) (scaleLo_lt r)).toLoadRect f5)
            (View.readAt (Elt F) arg5.view (rS (2 * r.val + 1) (scaleHi_lt r)).toLoadRect f5)) i
        = wt (arg3.view.read (Elt F) f3) x4 (arg5.view.read (Elt F) f5) ((rW r (2 * cc.val + k.val) (halfTile_lt cc k)).emb i) := by
    intro cc k i
    obtain ⟨a, l, rfl⟩ : ∃ (a : Fin 256) (l : Fin 128), i = ix2 a l := ⟨i 0, i 1, eq_ix2 i⟩
    rw [wt_emb]
    refine dec_apply (arg3.view.read (Elt F) f3) x4 (arg5.view.read (Elt F) f5) r cc k _ _ _ (fun a l => ?_) (fun a l => ?_) (fun a l => ?_) a l
    · refine congrArg (fun z => FloatOps.extf .f32 bitsLt_fp8e4m3_f32 (arg3.view.read (Elt F) f3 z)) (funext fun b => ?_)
      match b with
      | 0 => apply Fin.ext; show 256 * r.val + 1 * a.val = 256 * r.val + a.val; omega
      | 1 => apply Fin.ext; show 128 * cc.val + 1 * l.val = 128 * cc.val + l.val; omega
    · refine Eq.trans (congrArg (fun z => arg8.view.read (Elt F) f8 z) (funext fun b => ?_)) (h8 ⟨256 * r.val + a.val, by omega⟩ l)
      match b with
      | 0 => apply Fin.ext; show 256 * r.val + 1 * a.val = 256 * r.val + a.val; omega
      | 1 => apply Fin.ext; show 0 + 1 * l.val = l.val; omega
    · refine scaleCols_apply (arg5.view.read (Elt F) f5) r _ _ (fun l => ?_) (fun l => ?_) a l
      · refine congrArg (fun z => arg5.view.read (Elt F) f5 z) (funext fun b => ?_)
        match b with
        | 0 => rfl
        | 1 => apply Fin.ext; show 128 * (2 * r.val) + 1 * l.val = 128 * (2 * r.val) + l.val; omega
      · refine congrArg (fun z => arg5.view.read (Elt F) f5 z) (funext fun b => ?_)
        match b with
        | 0 => rfl
        | 1 => apply Fin.ext; show 128 * (2 * r.val + 1) + 1 * l.val = 128 * (2 * r.val + 1) + l.val; omega
  have hstep := (wp_inOrder c E (step arg3 arg7 harg7 r _ _)
    (fun pre => iprop(pts c arg3 f3 ∗ heldOn c arg7
      (fun y => D y ∨ ∃ cc ∈ pre, ∃ (k : Fin 2) (i : S256x128.Idx), (rW r (2 * cc.val + k.val) (halfTile_lt cc k)).emb i = y)
      (wt (arg3.view.read (Elt F) f3) x4 (arg5.view.read (Elt F) f5))))
    (fun pre cc => (wp_step c E arg3 arg7 harg7 r _ _ cc f3 _ _ (hT cc)).trans (wp_mono _ _ _ fun _ => sep_mono_r (heldOn_mono c arg7 _ _ _ (by
      rintro y (h | ⟨c', hc', h⟩)
      · exact .inl (.inl h)
      · rcases List.mem_append.mp hc' with hc' | hc'
        · exact .inl (.inr ⟨c', hc', h⟩)
        · rw [List.mem_singleton.mp hc'] at h
          exact .inr h))))
    [0, 1, 2, 3, 4, 5, 6, 7, 8, 9, 10, 11, 12, 13] []).trans (wp_mono _ _ _ fun _ => sep_mono_r (heldOn_mono c arg7 _
      (fun y => D y ∨ ∃ (cc : Fin 14) (k : Fin 2) (i : S256x128.Idx), (rW r (2 * cc.val + k.val) (halfTile_lt cc k)).emb i = y) _
      (fun y h => h.imp_right (fun ⟨cc, h⟩ => ⟨cc, (by clear h; revert cc; decide), h⟩))))
  iapply (wp_wand frame (wpE (defs₀ (F := F)) Variants.none (c : Thread nD τ) none) E (Q := fun _ => iprop(pts c arg3 f3 ∗ heldOn c arg7
      (fun y => D y ∨ ∃ (cc : Fin 14) (k : Fin 2) (i : S256x128.Idx), (rW r (2 * cc.val + k.val) (halfTile_lt cc k)).emb i = y)
      (wt (arg3.view.read (Elt F) f3) x4 (arg5.view.read (Elt F) f5))))) $$ [H3 H7]
  · iapply hstep
    isplitl [H3]
    · iexact H3
    · iapply (heldOn_mono c arg7 D (fun y => D y ∨ ∃ cc ∈ ([] : List (Fin 14)), ∃ (k : Fin 2) (i : S256x128.Idx), (rW r (2 * cc.val + k.val) (halfTile_lt cc k)).emb i = y)
        (wt (arg3.view.read (Elt F) f3) x4 (arg5.view.read (Elt F) f5)) (fun y h => h.resolve_right (by rintro ⟨c', hc', -⟩; exact List.not_mem_nil hc')))
      iexact H7
  · iintro %_ ⟨H3, H7⟩
    isplitl [H3]
    · iexact H3
    isplitl [H5]
    · iexact H5
    isplitl [H8]
    · iexact H8
    iexact H7

/-- The decode leaves the whole weight. -/
theorem wp_decode (c : Dev nD) (E : Set ℕ) (arg3 : Memref sig .tc .vmem S1024x1792 .fp8e4m3) (arg4 : Memref sig .tc .vmem S1024x112 .i32) (arg5 : Memref sig .tc .vmem S1x1024 .f32)
    (arg7 : Memref sig .tc .vmem S1024x3584 .bf16) (harg7 : arg7.IsWhole) (arg8 : Memref sig .tc .vmem S1024x128 .i32)
    (f3 : Buf (Elt F) (arg3.view.loc (c : Thread nD τ))) (f4 : Buf (Elt F) (arg4.view.loc (c : Thread nD τ))) (f5 : Buf (Elt F) (arg5.view.loc (c : Thread nD τ)))
    (f7 : Buf (Elt F) (arg7.view.loc (c : Thread nD τ))) (f8 : Buf (Elt F) (arg8.view.loc (c : Thread nD τ))) :
    iprop(pts c arg3 f3 ∗ pts c arg4 f4 ∗ pts c arg5 f5 ∗ pts c arg7 f7 ∗ pts c arg8 f8)
      ⊢ wp frame (wpE (defs₀ (F := F)) Variants.none c none) E (decode arg3 arg4 arg5 arg7 harg7 arg8) fun _ =>
          iprop(pts c arg3 f3 ∗ pts c arg4 f4 ∗ pts c arg5 f5 ∗ heldOn c arg7 (fun _ => True)
            (wt (arg3.view.read (Elt F) f3) (arg4.view.read (Elt F) f4) (arg5.view.read (Elt F) f5)) ∗ ∃ f8, pts c arg8 f8) := by
  unfold decode
  iintro ⟨H3, H4, H5, H7, H8⟩
  iapply (wp_copy c E arg4 arg8 _ _ f4 f8)
  isplitl [H4]
  · iexact H4
  isplitl [H8]
  · iexact H8
  iintro %g8 ⟨H4, H8, %h8⟩
  have hrows := (wp_inOrder c E (rows arg3 arg5 arg7 harg7 arg8)
    (fun pre => iprop(pts c arg3 f3 ∗ pts c arg5 f5 ∗ pts c arg8 g8 ∗ heldOn c arg7
      (fun y => ∃ r ∈ pre, ∃ (cc : Fin 14) (k : Fin 2) (i : S256x128.Idx), (rW r (2 * cc.val + k.val) (halfTile_lt cc k)).emb i = y)
      (wt (arg3.view.read (Elt F) f3) (arg4.view.read (Elt F) f4) (arg5.view.read (Elt F) f5))))
    (fun pre r => (wp_rows c E arg3 arg5 arg7 harg7 arg8 r f3 f5 g8 _ h8 _).trans (wp_mono _ _ _ fun _ =>
      sep_mono_r (sep_mono_r (sep_mono_r (heldOn_mono c arg7 _ _ _ (by
        rintro y ⟨r', hr', h⟩
        rcases List.mem_append.mp hr' with hr' | hr'
        · exact .inl ⟨r', hr', h⟩
        · rw [List.mem_singleton.mp hr'] at h
          exact .inr h))))))
    [0, 1, 2, 3] []).trans (wp_mono _ _ _ fun _ => sep_mono_r (sep_mono_r (sep_mono_r (heldOn_mono c arg7 _ (fun _ => True) _
      (fun y _ => (tiles_cover y).imp fun r h => ⟨(by clear h; revert r; decide), h⟩)))))
  iapply (wp_wand frame (wpE (defs₀ (F := F)) Variants.none (c : Thread nD τ) none) E (Q := fun _ => iprop(pts c arg3 f3 ∗ pts c arg5 f5 ∗ pts c arg8 g8 ∗ heldOn c arg7 (fun _ => True)
      (wt (arg3.view.read (Elt F) f3) (arg4.view.read (Elt F) f4) (arg5.view.read (Elt F) f5))))) $$ [H3 H5 H7 H8]
  · iapply hrows
    isplitl [H3]
    · iexact H3
    isplitl [H5]
    · iexact H5
    isplitl [H8]
    · iexact H8
    unfold heldOn
    iexists f7
    isplitr
    swap; · iexact H7
    ipureintro
    rintro y ⟨r', hr', -⟩
    exact absurd hr' List.not_mem_nil
  · iintro %_ ⟨H3, H5, H8, H7⟩
    isplitl [H3]
    · iexact H3
    isplitl [H4]
    · iexact H4
    isplitl [H5]
    · iexact H5
    isplitl [H7]
    · iexact H7
    · iexists _
      iexact H8

/-- A column block's product adds that block. -/
theorem wp_column (c : Dev nD) (E : Set ℕ) (arg6 : Memref sig .tc .vmem S640x3584 .bf16) (harg6 : arg6.IsWhole)
    (arg7 : Memref sig .tc .vmem S1024x3584 .bf16) (x1 : Vec F S640x1024 .fp8e5m2) (x2 : Vec F S1x1x640 .f32) (j : Fin 7)
    (f7 : Buf (Elt F) (arg7.view.loc (c : Thread nD τ))) (D : S640x3584.Idx → Prop) :
    iprop(pts c arg7 f7 ∗ heldOn c arg6 D (outBlk x1 x2 (arg7.view.read (Elt F) f7)))
      ⊢ wp frame (wpE (defs₀ (F := F)) Variants.none c none) E (column arg6 harg6 arg7 (scOf x2) (dyOf x1) j) fun _ =>
          iprop(pts c arg7 f7 ∗ heldOn c arg6 (fun y => D y ∨ ∃ i, (rO j).emb i = y) (outBlk x1 x2 (arg7.view.read (Elt F) f7))) := by
  unfold column heldOn
  iintro ⟨H7, ⟨%f, %hf, H⟩⟩
  sl_exec
  sl_step
  isplitl [H7]
  · iexact H7
  iexists _; isplitr
  swap; · iexact H
  ipureintro
  refine read_piece arg6.view f (rO j) _ D _ hf fun i => ?_
  obtain ⟨a, l, rfl⟩ : ∃ (a : Fin 640) (l : Fin 512), i = ix2 a l := ⟨i 0, i 1, eq_ix2 i⟩
  exact (outBlk_emb x1 x2 (arg7.view.read (Elt F) f7) j a l).symm

/-- The product leaves the whole result block. -/
theorem wp_product (c : Dev nD) (E : Set ℕ) (arg1 : Memref sig .tc .vmem S640x1024 .fp8e5m2) (arg2 : Memref sig .tc .vmem S1x1x640 .f32)
    (arg6 : Memref sig .tc .vmem S640x3584 .bf16) (harg6 : arg6.IsWhole) (arg7 : Memref sig .tc .vmem S1024x3584 .bf16)
    (f1 : Buf (Elt F) (arg1.view.loc (c : Thread nD τ))) (f2 : Buf (Elt F) (arg2.view.loc (c : Thread nD τ)))
    (f6 : Buf (Elt F) (arg6.view.loc (c : Thread nD τ))) (f7 : Buf (Elt F) (arg7.view.loc (c : Thread nD τ))) :
    iprop(pts c arg1 f1 ∗ pts c arg2 f2 ∗ pts c arg6 f6 ∗ pts c arg7 f7)
      ⊢ wp frame (wpE (defs₀ (F := F)) Variants.none c none) E (product arg1 arg2 arg6 harg6 arg7) fun _ =>
          iprop(pts c arg1 f1 ∗ pts c arg2 f2 ∗ heldOn c arg6 (fun _ => True)
            (outBlk (arg1.view.read (Elt F) f1) (arg2.view.read (Elt F) f2) (arg7.view.read (Elt F) f7)) ∗ pts c arg7 f7) := by
  unfold product
  iintro ⟨H1, H2, H6, H7⟩
  iapply (wp_productLoads c E arg1 arg2 (fun sc dy => inOrder (column arg6 harg6 arg7 sc dy) [0, 1, 2, 3, 4, 5, 6]) _ f1 f2)
  isplitl [H1]
  · iexact H1
  isplitl [H2]
  · iexact H2
  iintro ⟨H1, H2⟩
  have hcols := (wp_inOrder c E (column arg6 harg6 arg7 (scOf (arg2.view.read (Elt F) f2)) (dyOf (arg1.view.read (Elt F) f1)))
    (fun pre => iprop(pts c arg7 f7 ∗ heldOn c arg6 (fun y => ∃ j ∈ pre, ∃ (i : S640x512.Idx), (rO j).emb i = y)
      (outBlk (arg1.view.read (Elt F) f1) (arg2.view.read (Elt F) f2) (arg7.view.read (Elt F) f7))))
    (fun pre j => (wp_column c E arg6 harg6 arg7 _ _ j f7 _).trans (wp_mono _ _ _ fun _ =>
      sep_mono_r (heldOn_mono c arg6 _ _ _ (by
        rintro y ⟨r', hr', h⟩
        rcases List.mem_append.mp hr' with hr' | hr'
        · exact .inl ⟨r', hr', h⟩
        · rw [List.mem_singleton.mp hr'] at h
          exact .inr h))))
    [0, 1, 2, 3, 4, 5, 6] []).trans (wp_mono _ _ _ fun _ => sep_mono_r (heldOn_mono c arg6 _ (fun _ => True) _
      (fun y _ => (cols_cover y).imp fun j h => ⟨(by clear h; revert j; decide), h⟩)))
  iapply (wp_wand frame (wpE (defs₀ (F := F)) Variants.none (c : Thread nD τ) none) E (Q := fun _ => iprop(pts c arg7 f7 ∗ heldOn c arg6 (fun _ => True)
      (outBlk (arg1.view.read (Elt F) f1) (arg2.view.read (Elt F) f2) (arg7.view.read (Elt F) f7))))) $$ [H6 H7]
  · iapply hcols
    isplitl [H7]
    · iexact H7
    unfold heldOn
    iexists f6
    isplitr
    swap; · iexact H6
    ipureintro
    rintro y ⟨r', hr', -⟩
    exact absurd hr' List.not_mem_nil
  · iintro %_ ⟨H7, H6⟩
    isplitl [H1]
    · iexact H1
    isplitl [H2]
    · iexact H2
    isplitl [H6]
    · iexact H6
    · iexact H7

end Cert.Kernel.Body
-- ==== Proof.FrameKernel.lean ====
module

public import proofs.«01_k».proof.Proof.SpecKernel
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triples -/

/-- Held at every index is owned at the contents. -/
theorem owns_of_heldOn (c : Dev nD) {S : Shape} {e : EltTy} (M : Memref sig .tc .vmem S e) (T : S.Idx → Elt F e) :
    heldOn c M (fun _ => True) T ⊢ iprop(∃ f, ⌜M.view.read (Elt F) f = T⌝ ∗ pts c M f) := by
  unfold heldOn
  iintro ⟨%f, %hf, H⟩
  iexists f; isplitr
  swap; · iexact H
  ipureintro
  exact funext fun y => hf y trivial

/-- The product on owned memrefs. -/
theorem sound_product (c : Dev nD) (E : Set ℕ) (arg1 : Memref sig .tc .vmem S640x1024 .fp8e5m2) (arg2 : Memref sig .tc .vmem S1x1x640 .f32)
    (arg6 : Memref sig .tc .vmem S640x3584 .bf16) (harg6 : arg6.IsWhole) (arg7 : Memref sig .tc .vmem S1024x3584 .bf16)
    (x1 : Vec F S640x1024 .fp8e5m2) (x2 : Vec F S1x1x640 .f32) (W : Vec F S1024x3584 .bf16) :
    (iprop(owns (c : Thread nD τ) arg1 fullShare x1 ∗ owns (c : Thread nD τ) arg2 fullShare x2 ∗ (∃ d, owns (c : Thread nD τ) arg6 fullShare d) ∗ owns (c : Thread nD τ) arg7 fullShare W) : sProp 𝕄)
      ⊢ wp frame (wpE (defs₀ (F := F)) Variants.none c none) E (product arg1 arg2 arg6 harg6 arg7) fun _ =>
          iprop(owns (c : Thread nD τ) arg1 fullShare x1 ∗ owns (c : Thread nD τ) arg2 fullShare x2 ∗ owns (c : Thread nD τ) arg6 fullShare (outBlk x1 x2 W) ∗ owns (c : Thread nD τ) arg7 fullShare W) := by
  unfold owns
  iintro ⟨⟨%f1, %hf1, H1⟩, ⟨%f2, %hf2, H2⟩, ⟨%d6, %f6, -, H6⟩, ⟨%f7, %hf7, H7⟩⟩
  subst hf1 hf2 hf7
  iapply (wp_wand frame (wpE (defs₀ (F := F)) Variants.none (c : Thread nD τ) none) E (Q := fun _ =>
    iprop(pts c arg1 f1 ∗ pts c arg2 f2 ∗ heldOn c arg6 (fun _ => True)
            (outBlk (arg1.view.read (Elt F) f1) (arg2.view.read (Elt F) f2) (arg7.view.read (Elt F) f7)) ∗ pts c arg7 f7))) $$ [H1 H2 H6 H7]
  · iapply (wp_product c E arg1 arg2 arg6 harg6 arg7 f1 f2 f6 f7)
    isplitl [H1]; · iexact H1
    isplitl [H2]; · iexact H2
    isplitl [H6]; · iexact H6
    iexact H7
  · iintro %_ ⟨H1, H2, H6, H7⟩
    isplitl [H1]
    · iexists f1; isplitr; · ipureintro; rfl
      iexact H1
    isplitl [H2]
    · iexists f2; isplitr; · ipureintro; rfl
      iexact H2
    isplitl [H6]
    · iapply (owns_of_heldOn c arg6 (outBlk (arg1.view.read (Elt F) f1) (arg2.view.read (Elt F) f2) (arg7.view.read (Elt F) f7)))
      iexact H6
    · iexists f7; isplitr; · ipureintro; rfl
      iexact H7

/-- The decode on owned memrefs. -/
theorem sound_decode (c : Dev nD) (E : Set ℕ) (arg3 : Memref sig .tc .vmem S1024x1792 .fp8e4m3) (arg4 : Memref sig .tc .vmem S1024x112 .i32) (arg5 : Memref sig .tc .vmem S1x1024 .f32)
    (arg7 : Memref sig .tc .vmem S1024x3584 .bf16) (harg7 : arg7.IsWhole) (arg8 : Memref sig .tc .vmem S1024x128 .i32)
    (x3 : Vec F S1024x1792 .fp8e4m3) (x4 : Vec F S1024x112 .i32) (x5 : Vec F S1x1024 .f32) :
    (iprop(owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d)) : sProp 𝕄)
      ⊢ wp frame (wpE (defs₀ (F := F)) Variants.none c none) E (decode arg3 arg4 arg5 arg7 harg7 arg8) fun _ =>
          iprop(owns (c : Thread nD τ) arg3 fullShare x3 ∗ owns (c : Thread nD τ) arg4 fullShare x4 ∗ owns (c : Thread nD τ) arg5 fullShare x5 ∗ owns (c : Thread nD τ) arg7 fullShare (wt x3 x4 x5) ∗ (∃ d, owns (c : Thread nD τ) arg8 fullShare d)) := by
  unfold owns
  iintro ⟨⟨%f3, %hf3, H3⟩, ⟨%f4, %hf4, H4⟩, ⟨%f5, %hf5, H5⟩, ⟨%d7, %f7, -, H7⟩, ⟨%d8, %f8, -, H8⟩⟩
  subst hf3 hf4 hf5
  iapply (wp_wand frame (wpE (defs₀ (F := F)) Variants.none (c : Thread nD τ) none) E (Q := fun _ =>
    iprop(pts c arg3 f3 ∗ pts c arg4 f4 ∗ pts c arg5 f5 ∗ heldOn c arg7 (fun _ => True)
            (wt (arg3.view.read (Elt F) f3) (arg4.view.read (Elt F) f4) (arg5.view.read (Elt F) f5)) ∗ ∃ f8, pts c arg8 f8))) $$ [H3 H4 H5 H7 H8]
  · iapply (wp_decode c E arg3 arg4 arg5 arg7 harg7 arg8 f3 f4 f5 f7 f8)
    isplitl [H3]; · iexact H3
    isplitl [H4]; · iexact H4
    isplitl [H5]; · iexact H5
    isplitl [H7]; · iexact H7
    iexact H8
  · iintro %_ ⟨H3, H4, H5, H7, ⟨%g8, H8⟩⟩
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
    · iapply (owns_of_heldOn c arg7 (wt (arg3.view.read (Elt F) f3) (arg4.view.read (Elt F) f4) (arg5.view.read (Elt F) f5)))
      iexact H7
    · iexists _; iexists g8; isplitr; · ipureintro; rfl
      iexact H8

/-- The body at the first point: whatever the scratch held, it leaves the decoded weight there, and the block's product. -/
theorem sound_first (c : Dev nD) (E : Set ℕ) (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)
    (x1 : Vec F S640x1024 .fp8e5m2) (x2 : Vec F S1x1x640 .f32) (x3 : Vec F S1024x1792 .fp8e4m3) (x4 : Vec F S1024x112 .i32) (x5 : Vec F S1x1024 .f32) (h : isFirst i) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outBlk x1 x2 (wt x3 x4 x5)) ∗ owns (c : Thread nD τ) arg7 fullShare (wt x3 x4 x5) ∗ (∃ d, owns (c : Thread nD τ) arg8 fullShare d)) -∗ K ⟨⟩))
      ⊢ wp frame (wpE (defs₀ (F := F)) Variants.none c none) E (cc0_sparse24_dgrad (F := F) i arg1 harg1 arg2 harg2 arg3 harg3 arg4 harg4 arg5 harg5 arg6 harg6 arg7 harg7 arg8 harg8) K := by
  rw [body_first (h := h), wp_bind]
  iintro ⟨H1, H2, H3, H4, H5, H6, H7, H8, Hk⟩
  iapply (wp_wand frame (wpE (defs₀ (F := F)) Variants.none (c : Thread nD τ) none) E (Q := fun _ =>
    iprop(owns (c : Thread nD τ) arg3 fullShare x3 ∗ owns (c : Thread nD τ) arg4 fullShare x4 ∗ owns (c : Thread nD τ) arg5 fullShare x5 ∗ owns (c : Thread nD τ) arg7 fullShare (wt x3 x4 x5) ∗ (∃ d, owns (c : Thread nD τ) arg8 fullShare d)))) $$ [H3 H4 H5 H7 H8]
  · iapply (sound_decode c E arg3 arg4 arg5 arg7 harg7 arg8 x3 x4 x5)
    isplitl [H3]; · iexact H3
    isplitl [H4]; · iexact H4
    isplitl [H5]; · iexact H5
    isplitl [H7]; · iexact H7
    iexact H8
  iintro %_ ⟨H3, H4, H5, H7, H8⟩
  iapply (wp_wand frame (wpE (defs₀ (F := F)) Variants.none (c : Thread nD τ) none) E (Q := fun _ =>
    iprop(owns (c : Thread nD τ) arg1 fullShare x1 ∗ owns (c : Thread nD τ) arg2 fullShare x2 ∗ owns (c : Thread nD τ) arg6 fullShare (outBlk x1 x2 (wt x3 x4 x5)) ∗ owns (c : Thread nD τ) arg7 fullShare (wt x3 x4 x5)))) $$ [H1 H2 H6 H7]
  · iapply (sound_product c E arg1 arg2 arg6 harg6 arg7 x1 x2 (wt x3 x4 x5))
    isplitl [H1]; · iexact H1
    isplitl [H2]; · iexact H2
    isplitl [H6]; · iexact H6
    iexact H7
  iintro %_ ⟨H1, H2, H6, H7⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a later point: the scratch's weight stays, and the block's product is left. -/
theorem sound_later (c : Dev nD) (E : Set ℕ) (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)
    (x1 : Vec F S640x1024 .fp8e5m2) (x2 : Vec F S1x1x640 .f32) (x3 : Vec F S1024x1792 .fp8e4m3) (x4 : Vec F S1024x112 .i32) (x5 : Vec F S1x1024 .f32) (W : Vec F S1024x3584 .bf16) (h : ¬ isFirst i) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare W ∗ (∃ d, owns (c : Thread nD τ) arg8 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outBlk x1 x2 W) ∗ owns (c : Thread nD τ) arg7 fullShare W ∗ (∃ d, owns (c : Thread nD τ) arg8 fullShare d)) -∗ K ⟨⟩))
      ⊢ wp frame (wpE (defs₀ (F := F)) Variants.none c none) E (cc0_sparse24_dgrad (F := F) i arg1 harg1 arg2 harg2 arg3 harg3 arg4 harg4 arg5 harg5 arg6 harg6 arg7 harg7 arg8 harg8) K := by
  rw [body_later (h := h)]
  iintro ⟨H1, H2, H3, H4, H5, H6, H7, H8, Hk⟩
  iapply (wp_wand frame (wpE (defs₀ (F := F)) Variants.none (c : Thread nD τ) none) E (Q := fun _ =>
    iprop(owns (c : Thread nD τ) arg1 fullShare x1 ∗ owns (c : Thread nD τ) arg2 fullShare x2 ∗ owns (c : Thread nD τ) arg6 fullShare (outBlk x1 x2 W) ∗ owns (c : Thread nD τ) arg7 fullShare W))) $$ [H1 H2 H6 H7]
  · iapply (sound_product c E arg1 arg2 arg6 harg6 arg7 x1 x2 W)
    isplitl [H1]; · iexact H1
    isplitl [H2]; · iexact H2
    isplitl [H6]; · iexact H6
    iexact H7
  iintro %_ ⟨H1, H2, H6, H7⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's proof data -/

variable (m : (ℓ : Loc nD τ sig) → Buf (Elt F) ℓ) (ρ : Dev nD → PrngReg)

/-- The first grid point. -/
abbrev t₀ : Fin cfg0.N := ⟨0, by decide⟩

/-- The weight the first point decodes, from the weight's three arrays. -/
def W (c : Dev nD) : Vec F S1024x3584 .bf16 := wt (iblk m c 2 t₀) (iblk m c 3 t₀) (iblk m c 4 t₀)

/-- What the scratch holds after `n` points: anything before the first, the weight from then on. -/
def Φ (c : Dev nD) (n : ℕ) : sProp 𝕄 :=
  if n = 0 then Pipeline.ΦA spec0 c
  else iprop((owns (c : Thread nD τ) (Memref.whole cc0_scratch0) fullShare (W m c)
      ∗ ∃ f, owns (c : Thread nD τ) (Memref.whole cc0_scratch1) fullShare f) ∗ ∃ r, prngReg c r)

/-- The proof data: the arrays as the region finds them; after a point each input's buffer at its block and the result's
    at the block's product with the weight; the scratch as `Φ` says; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (W m c)
  Φ t := Φ m c t.val
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The result's buffer after a point. -/
theorem after0_5 (c : Dev nD) (t : Fin cfg0.N) : (dats m 0 c).after 5 t = outBlk (iblk m c 0 t) (iblk m c 1 t) (W m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's test of the first point, over the grid. -/
theorem isFirst_iff : ∀ t : Fin cfg0.N, isFirst (grid0.coords t) ↔ t.val = 0 := by decide +kernel

/-- Before the first point the scratch holds anything. -/
theorem Φ_zero (c : Dev nD) : Φ m c 0 = iprop(((∃ f, owns (c : Thread nD τ) (Memref.whole cc0_scratch0) fullShare f)
    ∗ ∃ f, owns (c : Thread nD τ) (Memref.whole cc0_scratch1) fullShare f) ∗ ∃ r, prngReg c r) := by
  unfold Φ
  rw [if_pos rfl]
  unfold Pipeline.ΦA
  rw [scopedRest0_eq]
  simp only [owns_whole]

/-- After a point the scratch holds the weight. -/
theorem Φ_pos (c : Dev nD) (n : ℕ) (h : n ≠ 0) : Φ m c n = iprop((owns (c : Thread nD τ) (Memref.whole cc0_scratch0) fullShare (W m c)
      ∗ ∃ f, owns (c : Thread nD τ) (Memref.whole cc0_scratch1) fullShare f) ∗ ∃ r, prngReg c r) := by
  unfold Φ
  rw [if_neg h]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the first decodes the weight, a later one finds it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φ m c (t.val + 1) from rfl,
    show (dats m 0 c).Φ t.castSucc = Φ m c t.val from rfl,
    show (dats m 0 c).owesAt () t.succ = (dats m 0 c).owesAt () t.castSucc from rfl,
    after0_0, after0_1, after0_2, after0_3, after0_4, after0_5, Φ_pos m c (t.val + 1) (Nat.succ_ne_zero _)]
  by_cases ht : t.val = 0
  · obtain rfl : t = t₀ := Fin.ext ht
    rw [show ((t₀ : Fin cfg0.N).val) = 0 from rfl, Φ_zero]
    iintro ⟨⟨⟨H7, H8⟩, Hr⟩, Ho, ⟨%d0, H0⟩, ⟨%d1, H1⟩, ⟨%d2, H2⟩, ⟨%d3, H3⟩, ⟨%d4, H4⟩, ⟨%d5, H5⟩⟩
    iapply (sound_first c Set.univ _ _ _ _ _ _ _ _ _ _ _ _ _ _ _ _ _ (iblk m c 0 t₀) (iblk m c 1 t₀) (iblk m c 2 t₀) (iblk m c 3 t₀) (iblk m c 4 t₀)
      ((isFirst_iff t₀).mpr rfl) _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    isplitl [H8]; · iexact H8
    iintro ⟨H0, H1, H2, H3, H4, H5, H7, H8⟩
    isplitl [H7 H8 Hr]
    · isplitl [H7 H8]
      · isplitl [H7]
        · iexact H7
        · iexact H8
      · iexact Hr
    isplitl [Ho]; · iexact Ho
    isplitl [H0]; · iexact H0
    isplitl [H1]; · iexact H1
    isplitl [H2]; · iexact H2
    isplitl [H3]; · iexact H3
    isplitl [H4]; · iexact H4
    iexact H5
  · rw [Φ_pos m c t.val ht]
    iintro ⟨⟨⟨H7, H8⟩, Hr⟩, Ho, ⟨%d0, H0⟩, ⟨%d1, H1⟩, ⟨%d2, H2⟩, ⟨%d3, H3⟩, ⟨%d4, H4⟩, ⟨%d5, H5⟩⟩
    iapply (sound_later c Set.univ _ _ _ _ _ _ _ _ _ _ _ _ _ _ _ _ _ (iblk m c 0 t) (iblk m c 1 t) (iblk m c 2 t) (iblk m c 3 t) (iblk m c 4 t)
      (W m c) (fun h => ht ((isFirst_iff t).mp h)) _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    isplitl [H8]; · iexact H8
    iintro ⟨H0, H1, H2, H3, H4, H5, H7, H8⟩
    isplitl [H7 H8 Hr]
    · isplitl [H7 H8]
      · isplitl [H7]
        · iexact H7
        · iexact H8
      · iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch's state is the launch's; -/
theorem Φ_in (c : Dev nD) : Pipeline.ΦA spec0 c ⊢ (dats m 0 c).Φ 0 := by
  rw [show (dats m 0 c).Φ 0 = Φ m c 0 from rfl]
  unfold Φ
  rw [if_pos rfl]

/-- after the last its contents are forgotten. -/
theorem Φ_out (c : Dev nD) : (dats m 0 c).Φ (Fin.last cfg0.N) ⊢ Pipeline.ΦA spec0 c := by
  rw [show (dats m 0 c).Φ (Fin.last cfg0.N) = Φ m c 24 from rfl, Φ_pos m c 24 (by decide),
    show (Pipeline.ΦA spec0 c : sProp 𝕄) = Φ m c 0 from (if_pos rfl).symm, Φ_zero]
  iintro ⟨⟨H7, H8⟩, Hr⟩
  isplitl [H7 H8]
  · isplitl [H7]
    · iexists _; iexact H7
    · iexact H8
  · iexact Hr

/-! ## The run -/

set_option backward.isDefEq.respectTransparency.types false in
set_option maxHeartbeats 800000 in
/-- From any memory with zero counters every execution of @main terminates, each array of the pipeline ends at what the
    proof data give, every other unscoped buffer ends as launched, and every semaphore counter ends at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every execution terminates without undefined behaviour, with the argument arrays unchanged and every semaphore counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Body
-- ==== Proof.BodyIdeal.lean ====
/-
  The kernel body as two small loops. The printed body decodes the weight tile by tile, the 56 steps of its two nested
  loops written out one after another; here the same body is stated once per step: a decode step for the row block `r`
  and the value tile `c` (`step`), the steps in order (`decode`), then the seven column blocks of the product
  (`column`). `body_eq` says that the printed body is this program.
-/
module

public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values a step computes -/

/-- The number of each lane of a tile. -/
def lanes : IVec S256x128 32 := iota .tc S256x128 32 [1] iota_S256x128_d1_w32

/-- The lane numbers floor-divided by `k`: the truncated quotient, less one where the signs differ and the remainder is
    not zero. -/
def laneDiv (k : BitVec 32) : IVec S256x128 32 :=
  select
    (andi
      (cmpi .ne
        (subi (extui 32 (cmpi .sgt lanes (broadcast S256x128 0#32)) natLt_1_32)
          (extui 32 (cmpi .slt lanes (broadcast S256x128 0#32)) natLt_1_32))
        (broadcast S256x128 (Scalar.subi (Scalar.extui (Scalar.cmpi .sgt k 0#32)) (Scalar.extui (Scalar.cmpi .slt k 0#32)))))
      (cmpi .ne (remsi lanes (broadcast S256x128 k)) (broadcast S256x128 0#32)))
    (subi (divsi lanes (broadcast S256x128 k)) (broadcast S256x128 1#32))
    (divsi lanes (broadcast S256x128 k))

/-- A lane index, a negative one counted from the end. -/
def wrap (x : IVec S256x128 32) : IVec S256x128 32 :=
  shapeCast S256x128
    (shapeCast S256x128x1
      (select (cmpi .slt x (broadcast S256x128 0#32)) (addi x (broadcast S256x128 128#32)) x)
      shapeCasts_S256x128_S256x128x1)
    shapeCasts_S256x128x1_S256x128

/-- The lane of the first kept value of each lane's group, `h` the offset of the half tile. -/
def firstLane (h : BitVec 32) : IVec S256x128 32 :=
  addi (muli (broadcast S256x128 2#32) (laneDiv 4#32)) (broadcast S256x128 h)

/-- The position bits of each lane's group, shifted down: from the tile of words `mt`, the first word at `w`. -/
def groupBits (w : BitVec 32) (mt : IVec S256x128 32) : IVec S256x128 32 :=
  shrsi (dynamicGather 1 mt (wrap (addi (laneDiv 32#32) (broadcast S256x128 w))))
    (muli (broadcast S256x128 4#32) (andi (laneDiv 4#32) (broadcast S256x128 7#32)))

/-- The position of each lane in its group of four. -/
def place : IVec S256x128 32 := andi lanes (broadcast S256x128 3#32)

/-- One dense tile of the scaled weight: per lane the kept value whose position is the lane's, times the row's scale. -/
def dec (h w : BitVec 32) (v : FVec F S256x128 .f32) (mt : IVec S256x128 32) (ws : FVec F S256x128 .f32) :
    FVec F S256x128 .bf16 :=
  shapeCast S256x128
    (truncf .bf16
      (mulf
        (extf .f32
          (truncf .bf16
            (addf
              (select (cmpi .eq (andi (groupBits w mt) (broadcast S256x128 3#32)) place)
                (dynamicGather 1 v (wrap (firstLane h))) (broadcast S256x128 (Scalar.ofBits .f32 0x00000000#32)))
              (select (cmpi .eq (andi (shrsi (groupBits w mt) (broadcast S256x128 2#32)) (broadcast S256x128 3#32)) place)
                (dynamicGather 1 v (wrap (addi (firstLane h) (broadcast S256x128 1#32))))
                (broadcast S256x128 (Scalar.ofBits .f32 0x00000000#32))))
            bitsLt_bf16_f32)
          bitsLt_bf16_f32)
        ws)
      bitsLt_bf16_f32)
    shapeCasts_S256x128_S256x128

/-- A row of 128 weight scales, rounded, as a column over 128 lanes. -/
def scaleCol (s : Vec F S1x128 .f32) : FVec F S128x128 .f32 :=
  transpose S128x128 [1, 0]
    (broadcastTo S128x128
      (shapeCast S1x128 (extf .f32 (truncf .bf16 (shapeCast S1x128 s shapeCasts_S1x128_S1x128) bitsLt_bf16_f32) bitsLt_bf16_f32)
        shapeCasts_S1x128_S1x128)
      broadcasts_S1x128_S128x128)
    transposes_S128x128_p1_0_S128x128

/-- The scales of 256 rows of the weight. -/
def scaleCols (s₀ s₁ : Vec F S1x128 .f32) : FVec F S256x128 .f32 :=
  concatenate S256x128 0 [⟨S128x128, scaleCol s₀⟩, ⟨S128x128, scaleCol s₁⟩] concatenates_S128x128_S128x128_S256x128_d0

/-- A row of 128 output scales as a column over 128 lanes. -/
def rowCol (s : Vec F S1x1x128 .f32) : FVec F S128x128 .f32 :=
  transpose S128x128 [1, 0]
    (broadcastTo S128x128 (shapeCast S1x128 (shapeCast S1x128 s shapeCasts_S1x1x128_S1x128) shapeCasts_S1x128_S1x128)
      broadcasts_S1x128_S128x128)
    transposes_S128x128_p1_0_S128x128

/-- The output scales of the block's 640 rows over 128 lanes. -/
def rowCols (s₀ s₁ s₂ s₃ s₄ : Vec F S1x1x128 .f32) : FVec F S640x128 .f32 :=
  concatenate S640x128 0 [⟨S128x128, rowCol s₀⟩, ⟨S128x128, rowCol s₁⟩, ⟨S128x128, rowCol s₂⟩, ⟨S128x128, rowCol s₃⟩, ⟨S128x128, rowCol s₄⟩]
    concatenates_S128x128_S128x128_S128x128_S128x128_S128x128_S640x128_d0

/-- … and over 512. -/
def rowScale (s₀ s₁ s₂ s₃ s₄ : Vec F S1x1x128 .f32) : FVec F S640x512 .f32 :=
  concatenate S640x512 1 [⟨S640x128, rowCols s₀ s₁ s₂ s₃ s₄⟩, ⟨S640x128, rowCols s₀ s₁ s₂ s₃ s₄⟩, ⟨S640x128, rowCols s₀ s₁ s₂ s₃ s₄⟩, ⟨S640x128, rowCols s₀ s₁ s₂ s₃ s₄⟩]
    concatenates_S640x128_S640x128_S640x128_S640x128_S640x512_d1

/-- The block of gradient codes, widened. -/
def dyWide (v : Vec F S640x1024 .fp8e5m2) : FVec F S640x1024 .bf16 :=
  extf .bf16 (shapeCast S640x1024 v shapeCasts_S640x1024_S640x1024) bitsLt_fp8e5m2_bf16

/-- One column block of the result: the product with 512 columns of the weight, scaled by rows, rounded. -/
def colOut (sc : FVec F S640x512 .f32) (dy : FVec F S640x1024 .bf16) (w : Vec F S1024x512 .bf16) : FVec F S640x512 .bf16 :=
  truncf .bf16
    (mulf (matmul dot_S640x1024_S1024x512_S640x512_1_0_0_1_n_n none dy w (constant S640x512 .f32 0x00000000#32)) sc)
    bitsLt_bf16_f32

/-! ## The rectangles -/

/-- The tile of row block `r` and column tile `q` lies in the weight. -/
theorem inbW (r : Fin 4) (q : ℕ) (hq : q < 28) : ∀ a, (![256 * r.val, 128 * q] : Fin 2 → ℕ) a + S256x128.size a ≤ S1024x3584.size a := by
  intro a
  have h0 : S256x128.size 0 = 256 := rfl
  have h1 : S256x128.size 1 = 128 := rfl
  have h2 : S1024x3584.size 0 = 1024 := rfl
  have h3 : S1024x3584.size 1 = 3584 := rfl
  have := r.isLt
  match a with
  | 0 => show 256 * r.val + _ ≤ _; omega
  | 1 => show 128 * q + _ ≤ _; omega

theorem inbV (r : Fin 4) (c : Fin 14) : ∀ a, (![256 * r.val, 128 * c.val] : Fin 2 → ℕ) a + S256x128.size a ≤ S1024x1792.size a := by
  intro a
  have h0 : S256x128.size 0 = 256 := rfl
  have h1 : S256x128.size 1 = 128 := rfl
  have h2 : S1024x1792.size 0 = 1024 := rfl
  have h3 : S1024x1792.size 1 = 1792 := rfl
  have := r.isLt
  have := c.isLt
  match a with
  | 0 => show 256 * r.val + _ ≤ _; omega
  | 1 => show 128 * c.val + _ ≤ _; omega

theorem inbM (r : Fin 4) : ∀ a, (![256 * r.val, 0] : Fin 2 → ℕ) a + S256x128.size a ≤ S1024x128.size a := by
  intro a
  have h0 : S256x128.size 0 = 256 := rfl
  have h1 : S256x128.size 1 = 128 := rfl
  have h2 : S1024x128.size 0 = 1024 := rfl
  have h3 : S1024x128.size 1 = 128 := rfl
  have := r.isLt
  match a with
  | 0 => show 256 * r.val + _ ≤ _; omega
  | 1 => show 0 + _ ≤ _; omega

theorem inbS (n : ℕ) (hn : n < 8) : ∀ a, (![0, 128 * n] : Fin 2 → ℕ) a + S1x128.size a ≤ S1x1024.size a := by
  intro a
  have h0 : S1x128.size 0 = 1 := rfl
  have h1 : S1x128.size 1 = 128 := rfl
  have h2 : S1x1024.size 0 = 1 := rfl
  have h3 : S1x1024.size 1 = 1024 := rfl
  match a with
  | 0 => show 0 + _ ≤ _; omega
  | 1 => show 128 * n + _ ≤ _; omega

theorem inbC (j : Fin 7) : ∀ a, (![0, 512 * j.val] : Fin 2 → ℕ) a + S1024x512.size a ≤ S1024x3584.size a := by
  intro a
  have h0 : S1024x512.size 0 = 1024 := rfl
  have h1 : S1024x512.size 1 = 512 := rfl
  have h2 : S1024x3584.size 0 = 1024 := rfl
  have h3 : S1024x3584.size 1 = 3584 := rfl
  have := j.isLt
  match a with
  | 0 => show 0 + _ ≤ _; omega
  | 1 => show 512 * j.val + _ ≤ _; omega

theorem inbO (j : Fin 7) : ∀ a, (![0, 512 * j.val] : Fin 2 → ℕ) a + S640x512.size a ≤ S640x3584.size a := by
  intro a
  have h0 : S640x512.size 0 = 640 := rfl
  have h1 : S640x512.size 1 = 512 := rfl
  have h2 : S640x3584.size 0 = 640 := rfl
  have h3 : S640x3584.size 1 = 3584 := rfl
  have := j.isLt
  match a with
  | 0 => show 0 + _ ≤ _; omega
  | 1 => show 512 * j.val + _ ≤ _; omega

/-- The tile of the weight at row block `r`, column tile `q`. -/
abbrev rW (r : Fin 4) (q : ℕ) (hq : q < 28) : Rect S1024x3584 := Rect.unit (s := S1024x3584) ![256 * r.val, 128 * q] S256x128.size (inbW r q hq)
/-- The tile of the kept values at row block `r`, column tile `c`. -/
abbrev rV (r : Fin 4) (c : Fin 14) : Rect S1024x1792 := Rect.unit (s := S1024x1792) ![256 * r.val, 128 * c.val] S256x128.size (inbV r c)
/-- The position words of row block `r`. -/
abbrev rM (r : Fin 4) : Rect S1024x128 := Rect.unit (s := S1024x128) ![256 * r.val, 0] S256x128.size (inbM r)
/-- The `n`-th 128 weight scales. -/
abbrev rS (n : ℕ) (hn : n < 8) : Rect S1x1024 := Rect.unit (s := S1x1024) ![0, 128 * n] S1x128.size (inbS n hn)
/-- The `j`-th 512 columns of the weight. -/
abbrev rC (j : Fin 7) : Rect S1024x3584 := Rect.unit (s := S1024x3584) ![0, 512 * j.val] S1024x512.size (inbC j)
/-- The `j`-th 512 columns of the result block. -/
abbrev rO (j : Fin 7) : Rect S640x3584 := Rect.unit (s := S640x3584) ![0, 512 * j.val] S640x512.size (inbO j)

/-- A weight tile's rows fill whole packed words. -/
theorem packedW (r : Fin 4) (q : ℕ) (hq : q < 28) : (rW r q hq).PackedRows (EltTy.packing .bf16) := by
  have h : ∀ (r : Fin 4) (q : Fin 28), (rW r q.val q.isLt).PackedRows (EltTy.packing .bf16) := by decide
  exact h r ⟨q, hq⟩

theorem packedO (j : Fin 7) : (rO j).PackedRows (EltTy.packing .bf16) := by
  revert j; decide

theorem halfTile_lt (c : Fin 14) (h : Fin 2) : 2 * c.val + h.val < 28 := by omega

theorem scaleLo_lt (r : Fin 4) : 2 * r.val < 8 := by omega
theorem scaleHi_lt (r : Fin 4) : 2 * r.val + 1 < 8 := by omega

/-! ## The program -/

section Program

variable (arg1 : Memref sig .tc .vmem S640x1024 .fp8e5m2) (arg2 : Memref sig .tc .vmem S1x1x640 .f32)
  (arg3 : Memref sig .tc .vmem S1024x1792 .fp8e4m3) (arg4 : Memref sig .tc .vmem S1024x112 .i32)
  (arg5 : Memref sig .tc .vmem S1x1024 .f32) (arg6 : Memref sig .tc .vmem S640x3584 .bf16) (harg6 : arg6.IsWhole)
  (arg7 : Memref sig .tc .vmem S1024x3584 .bf16) (harg7 : arg7.IsWhole) (arg8 : Memref sig .tc .vmem S1024x128 .i32)

/-- The programs of a list run in order. -/
def inOrder {α : Type} (f : α → Prog (TpuEff nD τ sig (Elt F) Λ₀ .tc) PUnit) : List α → Prog (TpuEff nD τ sig (Elt F) Λ₀ .tc) PUnit
  | [] => pure ⟨⟩
  | a :: l => f a >>= fun _ => inOrder f l

/-- A weight tile's store (a load of the tile, its value unused, stands before it). -/
def put (r : Fin 4) (q : ℕ) (hq : q < 28) (x : FVec F S256x128 .bf16) : Prog (TpuEff nD τ sig (Elt F) Λ₀ .tc) PUnit := do
  let _ : Vec F S256x128 .bf16 ← Prog.lift (.load arg7 (rW r q hq).toLoadRect (View.loadsAt_vmem h_S256x128))
  Prog.lift (.store arg7 (rW r q hq) x Finset.univ (View.stores_vmem h_S256x128 (harg7.storeExact_slice rfl _ (packedW r q hq)) (fun _ => rfl)) (.inl rfl))

/-- A decode step: one tile of kept values gives two tiles of the weight. -/
def step (r : Fin 4) (ws : FVec F S256x128 .f32) (mt : Vec F S256x128 .i32) (c : Fin 14) : Prog (TpuEff nD τ sig (Elt F) Λ₀ .tc) PUnit := do
  let v : Vec F S256x128 .fp8e4m3 ← Prog.lift (.load arg3 (rV r c).toLoadRect (View.loadsAt_vmem h_S256x128))
  put arg7 harg7 r (2 * c.val + 0) (halfTile_lt c 0) (dec (BitVec.ofNat 32 (64 * 0)) (BitVec.ofNat 32 (4 * (2 * c.val + 0))) (extf .f32 v bitsLt_fp8e4m3_f32) mt ws)
  put arg7 harg7 r (2 * c.val + 1) (halfTile_lt c 1) (dec (BitVec.ofNat 32 (64 * 1)) (BitVec.ofNat 32 (4 * (2 * c.val + 1))) (extf .f32 v bitsLt_fp8e4m3_f32) mt ws)

/-- The decode of 256 rows of the weight. -/
def rows (r : Fin 4) : Prog (TpuEff nD τ sig (Elt F) Λ₀ .tc) PUnit := do
  let s₀ : Vec F S1x128 .f32 ← Prog.lift (.load arg5 (rS (2 * r.val) (scaleLo_lt r)).toLoadRect (View.loadsAt_vmem h_S1x128))
  let s₁ : Vec F S1x128 .f32 ← Prog.lift (.load arg5 (rS (2 * r.val + 1) (scaleHi_lt r)).toLoadRect (View.loadsAt_vmem h_S1x128))
  let mt : Vec F S256x128 .i32 ← Prog.lift (.load arg8 (rM r).toLoadRect (View.loadsAt_vmem h_S256x128))
  inOrder (step arg3 arg7 harg7 r (scaleCols s₀ s₁) mt) [0, 1, 2, 3, 4, 5, 6, 7, 8, 9, 10, 11, 12, 13]

/-- The decode of the whole weight, after the position words are copied beside 16 spare columns. -/
def decode : Prog (TpuEff nD τ sig (Elt F) Λ₀ .tc) PUnit := do
  let mw : Vec F S1024x112 .i32 ← Prog.lift (.load arg4 (Rect.unit (s := S1024x112) ![0, 0] S1024x112.size inb_S1024x112_S1024x112_0_0).toLoadRect (View.loadsAt_vmem h_S1024x112))
  let _ : Vec F S1024x112 .i32 ← Prog.lift (.load arg8 (Rect.unit (s := S1024x128) ![0, 0] S1024x112.size inb_S1024x128_S1024x112_0_0).toLoadRect (View.loadsAt_vmem h_S1024x112))
  Prog.lift (.store arg8 (Rect.unit (s := S1024x128) ![0, 0] S1024x112.size inb_S1024x128_S1024x112_0_0) (shapeCast S1024x112 mw shapeCasts_S1024x112_S1024x112) Finset.univ (View.stores_vmem_bits_univ h_S1024x112 rfl) (.inl rfl))
  inOrder (rows arg3 arg5 arg7 harg7 arg8) [0, 1, 2, 3]

/-- One column block of the result: loaded weight columns, the product, its store. -/
def column (sc : FVec F S640x512 .f32) (dy : FVec F S640x1024 .bf16) (j : Fin 7) : Prog (TpuEff nD τ sig (Elt F) Λ₀ .tc) PUnit := do
  let w : Vec F S1024x512 .bf16 ← Prog.lift (.load arg7 (rC j).toLoadRect (View.loadsAt_vmem h_S1024x512))
  let _ : Vec F S640x512 .bf16 ← Prog.lift (.load arg6 (rO j).toLoadRect (View.loadsAt_vmem h_S640x512))
  Prog.lift (.store arg6 (rO j) (colOut sc dy w) Finset.univ (View.stores_vmem h_S640x512 (harg6.storeExact_slice rfl _ (packedO j)) (fun _ => rfl)) (.inl rfl))

/-- The product with the decoded weight. -/
def product : Prog (TpuEff nD τ sig (Elt F) Λ₀ .tc) PUnit := do
  let s₀ : Vec F S1x1x128 .f32 ← Prog.lift (.load arg2 (Rect.unit (s := S1x1x640) ![0, 0, 0] S1x1x128.size inb_S1x1x640_S1x1x128_0_0_0).toLoadRect (View.loadsAt_vmem h_S1x1x128))
  let s₁ : Vec F S1x1x128 .f32 ← Prog.lift (.load arg2 (Rect.unit (s := S1x1x640) ![0, 0, 128] S1x1x128.size inb_S1x1x640_S1x1x128_0_0_128).toLoadRect (View.loadsAt_vmem h_S1x1x128))
  let s₂ : Vec F S1x1x128 .f32 ← Prog.lift (.load arg2 (Rect.unit (s := S1x1x640) ![0, 0, 256] S1x1x128.size inb_S1x1x640_S1x1x128_0_0_256).toLoadRect (View.loadsAt_vmem h_S1x1x128))
  let s₃ : Vec F S1x1x128 .f32 ← Prog.lift (.load arg2 (Rect.unit (s := S1x1x640) ![0, 0, 384] S1x1x128.size inb_S1x1x640_S1x1x128_0_0_384).toLoadRect (View.loadsAt_vmem h_S1x1x128))
  let s₄ : Vec F S1x1x128 .f32 ← Prog.lift (.load arg2 (Rect.unit (s := S1x1x640) ![0, 0, 512] S1x1x128.size inb_S1x1x640_S1x1x128_0_0_512).toLoadRect (View.loadsAt_vmem h_S1x1x128))
  let dy : Vec F S640x1024 .fp8e5m2 ← Prog.lift (.load arg1 (Rect.unit (s := S640x1024) ![0, 0] S640x1024.size inb_S640x1024_S640x1024_0_0).toLoadRect (View.loadsAt_vmem h_S640x1024))
  inOrder (column arg6 harg6 arg7 (rowScale s₀ s₁ s₂ s₃ s₄) (dyWide dy)) [0, 1, 2, 3, 4, 5, 6]

/-- Whether a grid point is the first, as the body asks it. -/
abbrev isFirst (i : grid0.Coords) : Prop :=
  Scalar.cmpi .ne (Scalar.extui (Scalar.cmpi .eq (BitVec.ofNat 32 (i 0).val) 0#32) : BitVec 32) 0#32 = 1#1

/-- The body up to the first product, as it is printed: the decode if the point is the first, then the loads. -/
def opening (i : grid0.Coords) : Prog (TpuEff nD τ sig (Elt F) Λ₀ .tc) (Σ' (_ : FVec F S640x512 .f32) (_ : FVec F S640x1024 .bf16), FVec F S640x512 .f32) := do
  if h : isFirst i then do
    decode arg3 arg4 arg5 arg7 harg7 arg8
    pure ⟨⟩
  else do
    pure ⟨⟩
  let s₀ : Vec F S1x1x128 .f32 ← Prog.lift (.load arg2 (Rect.unit (s := S1x1x640) ![0, 0, 0] S1x1x128.size inb_S1x1x640_S1x1x128_0_0_0).toLoadRect (View.loadsAt_vmem h_S1x1x128))
  let s₁ : Vec F S1x1x128 .f32 ← Prog.lift (.load arg2 (Rect.unit (s := S1x1x640) ![0, 0, 128] S1x1x128.size inb_S1x1x640_S1x1x128_0_0_128).toLoadRect (View.loadsAt_vmem h_S1x1x128))
  let s₂ : Vec F S1x1x128 .f32 ← Prog.lift (.load arg2 (Rect.unit (s := S1x1x640) ![0, 0, 256] S1x1x128.size inb_S1x1x640_S1x1x128_0_0_256).toLoadRect (View.loadsAt_vmem h_S1x1x128))
  let s₃ : Vec F S1x1x128 .f32 ← Prog.lift (.load arg2 (Rect.unit (s := S1x1x640) ![0, 0, 384] S1x1x128.size inb_S1x1x640_S1x1x128_0_0_384).toLoadRect (View.loadsAt_vmem h_S1x1x128))
  let s₄ : Vec F S1x1x128 .f32 ← Prog.lift (.load arg2 (Rect.unit (s := S1x1x640) ![0, 0, 512] S1x1x128.size inb_S1x1x640_S1x1x128_0_0_512).toLoadRect (View.loadsAt_vmem h_S1x1x128))
  let dy : Vec F S640x1024 .fp8e5m2 ← Prog.lift (.load arg1 (Rect.unit (s := S640x1024) ![0, 0] S640x1024.size inb_S640x1024_S640x1024_0_0).toLoadRect (View.loadsAt_vmem h_S640x1024))
  let w : Vec F S1024x512 .bf16 ← Prog.lift (.load arg7 (rC 0).toLoadRect (View.loadsAt_vmem h_S1024x512))
  pure ⟨rowScale s₀ s₁ s₂ s₃ s₄, dyWide dy,
    mulf (matmul dot_S640x1024_S1024x512_S640x512_1_0_0_1_n_n none (dyWide dy) w (constant S640x512 .f32 0x00000000#32)) (rowScale s₀ s₁ s₂ s₃ s₄)⟩

/-- The body as it is printed: the opening, the first column block's store, the other column blocks. -/
def body (i : grid0.Coords) : Prog (TpuEff nD τ sig (Elt F) Λ₀ .tc) PUnit := do
  let ⟨sc, dy, a⟩ ← opening arg1 arg2 arg3 arg4 arg5 arg7 harg7 arg8 i
  let _ : Vec F S640x512 .bf16 ← Prog.lift (.load arg6 (rO 0).toLoadRect (View.loadsAt_vmem h_S640x512))
  Prog.lift (.store arg6 (rO 0) (truncf .bf16 a bitsLt_bf16_f32) Finset.univ (View.stores_vmem h_S640x512 (harg6.storeExact_slice rfl _ (packedO 0)) (fun _ => rfl)) (.inl rfl))
  inOrder (column arg6 harg6 arg7 sc dy) [1, 2, 3, 4, 5, 6]

end Program

section Equation

variable (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)

/-- The printed body is `body`. -/
theorem body_eq :
    cc0_sparse24_dgrad (F := F) i arg1 harg1 arg2 harg2 arg3 harg3 arg4 harg4 arg5 harg5 arg6 harg6 arg7 harg7 arg8 harg8
      = body arg1 arg2 arg3 arg4 arg5 arg6 harg6 arg7 harg7 arg8 i := by
  sl_kernel_rfl

/-- At the first grid point the printed body is the decode, then the product. -/
theorem body_first (h : isFirst i) :
    cc0_sparse24_dgrad (F := F) i arg1 harg1 arg2 harg2 arg3 harg3 arg4 harg4 arg5 harg5 arg6 harg6 arg7 harg7 arg8 harg8
      = (decode arg3 arg4 arg5 arg7 harg7 arg8 >>= fun _ => product arg1 arg2 arg6 harg6 arg7) := by
  rw [body_eq]
  unfold body opening
  rw [dif_pos h]
  sl_kernel_rfl

/-- At every other grid point it is the product. -/
theorem body_later (h : ¬ isFirst i) :
    cc0_sparse24_dgrad (F := F) i arg1 harg1 arg2 harg2 arg3 harg3 arg4 harg4 arg5 harg5 arg6 harg6 arg7 harg7 arg8 harg8
      = product arg1 arg2 arg6 harg6 arg7 := by
  rw [body_eq]
  unfold body opening
  rw [dif_neg h]
  sl_kernel_rfl

end Equation

end Cert.KernelIdeal.Body

end
-- ==== Proof.DecIdeal.lean ====
module

public import proofs.«01_k».proof.Proof.BodyIdeal
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! ## Lanes -/

/-- The lane number at an index. -/
theorem lanes_apply (i : Fin 256) (l : Fin 128) : lanes (ix2 i l) = BitVec.ofNat 32 l.val := by
  pointwise [lanes]

/-- The lane's group of four. -/
theorem laneDiv4_apply (i : Fin 256) (l : Fin 128) : laneDiv 4#32 (ix2 i l) = BitVec.ofNat 32 (l.val / 4) := by
  pointwise [laneDiv, lanes_apply]
  revert l; decide +kernel

/-- The lane's position word, counted from the tile's first. -/
theorem laneDiv32_apply (i : Fin 256) (l : Fin 128) : laneDiv 32#32 (ix2 i l) = BitVec.ofNat 32 (l.val / 32) := by
  pointwise [laneDiv, lanes_apply]
  revert l; decide +kernel

/-- The lane's position in its group. -/
theorem place_apply (i : Fin 256) (l : Fin 128) : place (ix2 i l) = BitVec.ofNat 32 (l.val % 4) := by
  pointwise [place, lanes_apply]
  revert l; decide +kernel

/-- A lane index in range is kept by the wrap. -/
theorem wrap_apply (x : IVec S256x128 32) (i : Fin 256) (l : Fin 128) (n : Fin 128) (h : x (ix2 i l) = BitVec.ofNat 32 n.val) :
    wrap x (ix2 i l) = BitVec.ofNat 32 n.val := by
  pointwise [wrap, h]
  clear h
  revert n; decide +kernel

/-- The lane the wrapped index names. -/
theorem wrap_lane (x : IVec S256x128 32) (i : Fin 256) (l : Fin 128) (n : Fin 128) (h : x (ix2 i l) = BitVec.ofNat 32 n.val) :
    (wrap x (ix2 i l)).toNat % 128 = n.val := by
  rw [wrap_apply x i l n h]
  clear h
  revert n; decide +kernel

/-- The lane of the first kept value. -/
theorem firstLane_apply (k : Fin 2) (i : Fin 256) (l : Fin 128) :
    firstLane (BitVec.ofNat 32 (64 * k.val)) (ix2 i l) = BitVec.ofNat 32 (2 * (l.val / 4) + 64 * k.val) := by
  pointwise [firstLane, laneDiv4_apply]
  revert k l; decide +kernel

/-- The lane of the second kept value. -/
theorem nextLane_apply (k : Fin 2) (i : Fin 256) (l : Fin 128) :
    addi (firstLane (BitVec.ofNat 32 (64 * k.val))) (broadcast S256x128 1#32) (ix2 i l)
      = BitVec.ofNat 32 (2 * (l.val / 4) + 64 * k.val + 1) := by
  pointwise [firstLane_apply]
  revert k l; decide +kernel

/-- The lane of the position word. -/
theorem wordLane_apply (w : Fin 109) (i : Fin 256) (l : Fin 128) :
    addi (laneDiv 32#32) (broadcast S256x128 (BitVec.ofNat 32 w.val)) (ix2 i l) = BitVec.ofNat 32 (l.val / 32 + w.val) := by
  pointwise [laneDiv32_apply]
  revert w l; decide +kernel

/-- How far the position word is shifted. -/
theorem shift_apply (i : Fin 256) (l : Fin 128) :
    IntOp.muli (4#32) (IntOp.andi (laneDiv 4#32 (ix2 i l)) 7#32) = BitVec.ofNat 32 (4 * (l.val / 4 % 8)) := by
  rw [laneDiv4_apply]
  revert l; decide +kernel

/-- The position bits at an index: the word of the lane's 32 columns, shifted to the lane's group. -/
theorem groupBits_apply (w : Fin 109) (mt : IVec S256x128 32) (i : Fin 256) (l : Fin 128) (n : Fin 128) (hn : n.val = l.val / 32 + w.val) :
    groupBits (BitVec.ofNat 32 w.val) mt (ix2 i l) = IntOp.shrsi .vector (mt (ix2 i n)) (BitVec.ofNat 32 (4 * (l.val / 4 % 8))) := by
  have hw : (wrap (addi (laneDiv 32#32) (broadcast S256x128 (BitVec.ofNat 32 w.val))) (ix2 i l)).toNat % 128 = n.val :=
    wrap_lane _ i l n (by rw [wordLane_apply, hn])
  pointwise [groupBits, hw, shift_apply]

/-! ## The weight's element -/

/-- The scaled dense weight at row `o`, column `n`: of the group's two kept values those whose position is the column's,
    added, rounded, times the row's scale, rounded. -/
def wElt (x3 : Vec F S1024x1792 .fp8e4m3) (x4 : Vec F S1024x112 .i32) (x5 : Vec F S1x1024 .f32) (o : Fin 1024) (n : Fin 3584) : F .bf16 :=
  FloatOps.truncf .bf16 bitsLt_bf16_f32
    (FloatOps.mulf
      (FloatOps.extf .f32 bitsLt_bf16_f32
        (FloatOps.truncf .bf16 bitsLt_bf16_f32
          (FloatOps.addf
            (Scalar.select
              (IntOp.cmpi .eq
                (IntOp.andi (IntOp.shrsi .vector (x4 (ix2 o ⟨n.val / 32, by omega⟩)) (BitVec.ofNat 32 (4 * (n.val / 4 % 8)))) 3#32)
                (BitVec.ofNat 32 (n.val % 4)))
              (FloatOps.extf .f32 bitsLt_fp8e4m3_f32 (x3 (ix2 o ⟨2 * (n.val / 4), by omega⟩)))
              (FloatOps.ofBits .f32 0#32))
            (Scalar.select
              (IntOp.cmpi .eq
                (IntOp.andi
                  (IntOp.shrsi .vector
                    (IntOp.shrsi .vector (x4 (ix2 o ⟨n.val / 32, by omega⟩)) (BitVec.ofNat 32 (4 * (n.val / 4 % 8)))) 2#32) 3#32)
                (BitVec.ofNat 32 (n.val % 4)))
              (FloatOps.extf .f32 bitsLt_fp8e4m3_f32 (x3 (ix2 o ⟨2 * (n.val / 4) + 1, by omega⟩)))
              (FloatOps.ofBits .f32 0#32)))))
      (FloatOps.extf .f32 bitsLt_bf16_f32 (FloatOps.truncf .bf16 bitsLt_bf16_f32 (x5 (ix2 0 o)))))

/-- A decoded tile holds the weight's elements at its place, whatever row block, value tile and half it is. -/
theorem dec_apply (x3 : Vec F S1024x1792 .fp8e4m3) (x4 : Vec F S1024x112 .i32) (x5 : Vec F S1x1024 .f32)
    (r : Fin 4) (c : Fin 14) (k : Fin 2) (v : FVec F S256x128 .f32) (mt : IVec S256x128 32) (ws : FVec F S256x128 .f32)
    (hv : ∀ (i : Fin 256) (l : Fin 128), v (ix2 i l) = FloatOps.extf .f32 bitsLt_fp8e4m3_f32 (x3 (ix2 ⟨256 * r.val + i.val, by omega⟩ ⟨128 * c.val + l.val, by omega⟩)))
    (hm : ∀ (i : Fin 256) (l : Fin 112), mt (ix2 i ⟨l.val, by omega⟩) = x4 (ix2 ⟨256 * r.val + i.val, by omega⟩ l))
    (hs : ∀ (i : Fin 256) (l : Fin 128), ws (ix2 i l) = FloatOps.extf .f32 bitsLt_bf16_f32 (FloatOps.truncf .bf16 bitsLt_bf16_f32 (x5 (ix2 0 ⟨256 * r.val + i.val, by omega⟩))))
    (i : Fin 256) (l : Fin 128) :
    dec (BitVec.ofNat 32 (64 * k.val)) (BitVec.ofNat 32 (4 * (2 * c.val + k.val))) v mt ws (ix2 i l)
      = wElt x3 x4 x5 ⟨256 * r.val + i.val, by omega⟩ ⟨128 * (2 * c.val + k.val) + l.val, by omega⟩ := by
  have h0 : (wrap (firstLane (BitVec.ofNat 32 (64 * k.val))) (ix2 i l)).toNat % 128 = 2 * (l.val / 4) + 64 * k.val :=
    wrap_lane _ i l ⟨2 * (l.val / 4) + 64 * k.val, by omega⟩ (firstLane_apply k i l)
  have h1 : (wrap (addi (firstLane (BitVec.ofNat 32 (64 * k.val))) (broadcast S256x128 1#32)) (ix2 i l)).toNat % 128
      = 2 * (l.val / 4) + 64 * k.val + 1 :=
    wrap_lane _ i l ⟨2 * (l.val / 4) + 64 * k.val + 1, by omega⟩ (nextLane_apply k i l)
  have hb : groupBits (BitVec.ofNat 32 (4 * (2 * c.val + k.val))) mt (ix2 i l)
      = IntOp.shrsi .vector (mt (ix2 i ⟨l.val / 32 + 4 * (2 * c.val + k.val), by omega⟩)) (BitVec.ofNat 32 (4 * (l.val / 4 % 8))) :=
    groupBits_apply ⟨4 * (2 * c.val + k.val), by omega⟩ mt i l _ rfl
  have hm' := hm i ⟨l.val / 32 + 4 * (2 * c.val + k.val), by omega⟩
  have e0 : (128 * (2 * c.val + k.val) + l.val) / 32 = l.val / 32 + 4 * (2 * c.val + k.val) := by omega
  have e1 : (128 * (2 * c.val + k.val) + l.val) / 4 % 8 = l.val / 4 % 8 := by omega
  have e2 : (128 * (2 * c.val + k.val) + l.val) % 4 = l.val % 4 := by omega
  have e3 : 2 * ((128 * (2 * c.val + k.val) + l.val) / 4) = 128 * c.val + (2 * (l.val / 4) + 64 * k.val) := by omega
  have e4 : 128 * c.val + (2 * (l.val / 4) + 64 * k.val) + 1 = 128 * c.val + (2 * (l.val / 4) + 64 * k.val + 1) := by omega
  unfold wElt
  simp only [e0, e1, e2, e3, e4]
  pointwise [dec, place_apply, h0, h1, hb, hs, hv]
  simp only [hm']

/-- The weight's scale columns at an index. -/
theorem scaleCols_apply (x5 : Vec F S1x1024 .f32) (r : Fin 4) (s₀ s₁ : Vec F S1x128 .f32)
    (h0 : ∀ l : Fin 128, s₀ (ix2 0 l) = x5 (ix2 0 ⟨128 * (2 * r.val) + l.val, by omega⟩))
    (h1 : ∀ l : Fin 128, s₁ (ix2 0 l) = x5 (ix2 0 ⟨128 * (2 * r.val + 1) + l.val, by omega⟩))
    (i : Fin 256) (l : Fin 128) :
    scaleCols s₀ s₁ (ix2 i l) = FloatOps.extf .f32 bitsLt_bf16_f32 (FloatOps.truncf .bf16 bitsLt_bf16_f32 (x5 (ix2 0 ⟨256 * r.val + i.val, by omega⟩))) := by
  pointwise [scaleCols, scaleCol]
  split
  · rw [h0]; congr 4; apply Fin.ext; show 128 * (2 * r.val) + i.val = 256 * r.val + i.val; omega
  · rw [h1]; congr 4; apply Fin.ext; show 128 * (2 * r.val + 1) + (i.val - 128) = 256 * r.val + i.val; omega

/-- The output scales at an index. -/
theorem rowScale_apply (d : Fin 640 → F .f32) (s₀ s₁ s₂ s₃ s₄ : Vec F S1x1x128 .f32)
    (h0 : ∀ l : Fin 128, s₀ (ix3 0 0 l) = d ⟨0 + l.val, by omega⟩)
    (h1 : ∀ l : Fin 128, s₁ (ix3 0 0 l) = d ⟨128 + l.val, by omega⟩)
    (h2 : ∀ l : Fin 128, s₂ (ix3 0 0 l) = d ⟨256 + l.val, by omega⟩)
    (h3 : ∀ l : Fin 128, s₃ (ix3 0 0 l) = d ⟨384 + l.val, by omega⟩)
    (h4 : ∀ l : Fin 128, s₄ (ix3 0 0 l) = d ⟨512 + l.val, by omega⟩)
    (i : Fin 640) (l : Fin 512) : rowScale s₀ s₁ s₂ s₃ s₄ (ix2 i l) = d i := by
  have h : ∀ l : Fin 128, rowCols s₀ s₁ s₂ s₃ s₄ (ix2 i l) = d i := by
    intro l
    pointwise [rowCols, rowCol]
    split
    · rw [h0]; congr 1; apply Fin.ext; show 0 + i.val = i.val; omega
    split
    · rw [h1]; congr 1; apply Fin.ext; show 128 + (i.val - 128) = i.val; omega
    split
    · rw [h2]; congr 1; apply Fin.ext; show 256 + (i.val - 128 - 128) = i.val; omega
    split
    · rw [h3]; congr 1; apply Fin.ext; show 384 + (i.val - 128 - 128 - 128) = i.val; omega
    · rw [h4]; congr 1; apply Fin.ext; show 512 + (i.val - 128 - 128 - 128 - 128) = i.val; omega
  pointwise [rowScale, h]
  split_ifs <;> rfl

end Cert.KernelIdeal.Body
-- ==== Proof.StepIdeal.lean ====
module

public import proofs.«01_k».proof.Proof.DecIdeal
public import Idealize.ShloMosaic.Lib.Exec

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's elements held whole at contents `f` of its buffer. -/
abbrev pts (c : Dev nD) {S : Shape} {e : EltTy} (M : Memref sig .tc .vmem S e) (f : Buf (Elt F) (M.view.loc (c : Thread nD τ))) : sProp 𝕄 :=
  M.view.loc (c : Thread nD τ) ↦[M.view.set]{fullShare} f

/-- A memref held at contents that read as `T` at the indices of `D`. -/
def heldOn (c : Dev nD) {S : Shape} {e : EltTy} (M : Memref sig .tc .vmem S e) (D : S.Idx → Prop) (T : S.Idx → Elt F e) : sProp 𝕄 :=
  iprop(∃ f, ⌜∀ y, D y → M.view.read (Elt F) f y = T y⌝ ∗ pts c M f)

/-- A write of the wanted elements: what read as wanted does, and so does the written rectangle. -/
theorem read_piece {κ : Kind} {sp : Space} {S : Shape} {e : EltTy} (v : View sig κ sp S e) (f : v.ty.Contents (Elt F)) (r : Rect S)
    (w : r.shape.Idx → Elt F e) (D : S.Idx → Prop) (T : S.Idx → Elt F e)
    (hf : ∀ y, D y → v.read (Elt F) f y = T y) (hw : ∀ i, w i = T (r.emb i)) :
    ∀ y, (D y ∨ ∃ i, r.emb i = y) → v.read (Elt F) (v.writes (Elt F) f [⟨r, w⟩]) y = T y := by
  intro y hy
  by_cases hm : ∃ i, r.emb i = y
  · obtain ⟨i, rfl⟩ := hm
    exact (View.read_writes_cons_emb v f r w [] i).trans (hw i)
  · refine (View.read_writes_cons_miss v f ⟨r, w⟩ [] y ?_).trans (hf y (hy.resolve_right hm))
    intro h
    rw [← Rect.map_emb_univ] at h
    obtain ⟨i, -, hi⟩ := Finset.mem_map.mp h
    exact hm ⟨i, hi⟩

/-- A tile's store adds the tile to what is held. -/
theorem wp_put (c : Dev nD) (E : Set ℕ) (arg7 : Memref sig .tc .vmem S1024x3584 .bf16) (harg7 : arg7.IsWhole)
    (r : Fin 4) (q : ℕ) (hq : q < 28) (x : FVec F S256x128 .bf16) (D : S1024x3584.Idx → Prop) (T : S1024x3584.Idx → Elt F .bf16)
    (hx : ∀ i : S256x128.Idx, x i = T ((rW r q hq).emb i)) :
    heldOn c arg7 D T
      ⊢ wp frame (wpE (defs₀ (F := F)) Variants.none c none) E (put arg7 harg7 r q hq x)
          fun _ => heldOn c arg7 (fun y => D y ∨ ∃ i, (rW r q hq).emb i = y) T := by
  unfold put heldOn
  iintro ⟨%f, %hf, H⟩
  sl_exec
  sl_step
  iexists _; isplitr
  swap; · iexact H
  ipureintro
  exact read_piece arg7.view f (rW r q hq) x D T hf hx

/-- Programs run in order: what each one adds, the list adds. -/
theorem wp_inOrder (c : Dev nD) (E : Set ℕ) {α : Type} (f : α → Prog (TpuEff nD τ sig (Elt F) Λ₀ .tc) PUnit) (I : List α → sProp 𝕄)
    (hf : ∀ pre a, I pre ⊢ wp frame (wpE (defs₀ (F := F)) Variants.none c none) E (f a) fun _ => I (pre ++ [a]))
    (l pre : List α) :
    I pre ⊢ wp frame (wpE (defs₀ (F := F)) Variants.none c none) E (inOrder f l) fun _ => I (pre ++ l) := by
  induction l generalizing pre with
  | nil =>
    unfold inOrder
    iintro H
    sl_step
    rw [List.append_nil]
    iexact H
  | cons a l ih =>
    unfold inOrder
    rw [wp_bind]
    refine (hf pre a).trans (wp_mono _ _ _ fun _ => ?_)
    have := ih (pre ++ [a])
    rw [List.append_assoc] at this
    exact this

/-- What is held may be told by fewer indices. -/
theorem heldOn_mono (c : Dev nD) {S : Shape} {e : EltTy} (M : Memref sig .tc .vmem S e) (D D' : S.Idx → Prop) (T : S.Idx → Elt F e)
    (h : ∀ y, D' y → D y) : heldOn c M D T ⊢ heldOn c M D' T := by
  unfold heldOn
  iintro ⟨%f, %hf, H⟩
  iexists f; isplitr
  swap; · iexact H
  ipureintro
  exact fun y hy => hf y (h y hy)

/-- A decode step adds its two tiles. -/
theorem wp_step (c : Dev nD) (E : Set ℕ) (arg3 : Memref sig .tc .vmem S1024x1792 .fp8e4m3) (arg7 : Memref sig .tc .vmem S1024x3584 .bf16) (harg7 : arg7.IsWhole)
    (r : Fin 4) (ws : FVec F S256x128 .f32) (mt : Vec F S256x128 .i32) (cc : Fin 14)
    (f3 : Buf (Elt F) (arg3.view.loc (c : Thread nD τ))) (D : S1024x3584.Idx → Prop) (T : S1024x3584.Idx → Elt F .bf16)
    (hT : ∀ (k : Fin 2) (i : S256x128.Idx),
      dec (BitVec.ofNat 32 (64 * k.val)) (BitVec.ofNat 32 (4 * (2 * cc.val + k.val)))
          (extf .f32 (View.readAt (Elt F) arg3.view (rV r cc).toLoadRect f3) bitsLt_fp8e4m3_f32) mt ws i
        = T ((rW r (2 * cc.val + k.val) (halfTile_lt cc k)).emb i)) :
    iprop(pts c arg3 f3 ∗ heldOn c arg7 D T)
      ⊢ wp frame (wpE (defs₀ (F := F)) Variants.none c none) E (step arg3 arg7 harg7 r ws mt cc) fun _ =>
          iprop(pts c arg3 f3 ∗ heldOn c arg7
            (fun y => D y ∨ ∃ (k : Fin 2) (i : S256x128.Idx), (rW r (2 * cc.val + k.val) (halfTile_lt cc k)).emb i = y) T) := by
  have hmono : ∀ y : S1024x3584.Idx, (D y ∨ ∃ (k : Fin 2) (i : S256x128.Idx), (rW r (2 * cc.val + k.val) (halfTile_lt cc k)).emb i = y) →
      ((D y ∨ ∃ i, (rW r (2 * cc.val + 0) (halfTile_lt cc 0)).emb i = y) ∨ ∃ i, (rW r (2 * cc.val + 1) (halfTile_lt cc 1)).emb i = y) := by
    rintro y (h | ⟨k, i, h⟩)
    · exact .inl (.inl h)
    · match k with
      | 0 => exact .inl (.inr ⟨i, h⟩)
      | 1 => exact .inr ⟨i, h⟩
  have h0 := wp_put c E arg7 harg7 r (2 * cc.val + 0) (halfTile_lt cc 0) _ D T (hT 0)
  have h1 := wp_put c E arg7 harg7 r (2 * cc.val + 1) (halfTile_lt cc 1) _ (fun y => D y ∨ ∃ i, (rW r (2 * cc.val + 0) (halfTile_lt cc 0)).emb i = y) T (hT 1)
  have h2 := h1.trans (wp_mono _ _ _ fun _ => heldOn_mono c arg7 _ _ T hmono)
  have h3 := h0.trans (wp_mono _ _ _ fun _ => h2)
  rw [← wp_bind] at h3
  unfold step
  iintro ⟨H3, H⟩
  iapply (wp_load_rect (m := arg3) (r := rV r cc) (f := f3) (q := fullShare) Variants.none (c : Thread nD τ) none E (Memref.setOn_access_subset arg3 _ _)) $$ [H3]
  · iexact H3
  iintro H3
  iapply (wp_wand frame (wpE (defs₀ (F := F)) Variants.none (c : Thread nD τ) none) E (Q := fun _ => heldOn c arg7
            (fun y => D y ∨ ∃ (k : Fin 2) (i : S256x128.Idx), (rW r (2 * cc.val + k.val) (halfTile_lt cc k)).emb i = y) T)) $$ [H]
  · iapply h3
    iexact H
  · iintro %_ H
    isplitl [H3]
    · iexact H3
    · iexact H

end Cert.KernelIdeal.Body
-- ==== Proof.SpecIdeal.lean ====
module

public import proofs.«01_k».proof.Proof.StepIdeal
public import Idealize.ShloMosaic.Lib.Exec

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What is decoded and what is stored -/

/-- The scaled dense weight. -/
def wt (x3 : Vec F S1024x1792 .fp8e4m3) (x4 : Vec F S1024x112 .i32) (x5 : Vec F S1x1024 .f32) : S1024x3584.Idx → Elt F .bf16 :=
  fun y => wElt x3 x4 x5 (y 0) (y 1)

/-- The output scales of a block over 512 columns. -/
def scOf (x2 : Vec F S1x1x640 .f32) : FVec F S640x512 .f32 :=
  rowScale (View.ld x2 (Rect.unit (s := S1x1x640) ![0, 0, 0] S1x1x128.size inb_S1x1x640_S1x1x128_0_0_0))
    (View.ld x2 (Rect.unit (s := S1x1x640) ![0, 0, 128] S1x1x128.size inb_S1x1x640_S1x1x128_0_0_128))
    (View.ld x2 (Rect.unit (s := S1x1x640) ![0, 0, 256] S1x1x128.size inb_S1x1x640_S1x1x128_0_0_256))
    (View.ld x2 (Rect.unit (s := S1x1x640) ![0, 0, 384] S1x1x128.size inb_S1x1x640_S1x1x128_0_0_384))
    (View.ld x2 (Rect.unit (s := S1x1x640) ![0, 0, 512] S1x1x128.size inb_S1x1x640_S1x1x128_0_0_512))

/-- The gradient block, widened. -/
def dyOf (x1 : Vec F S640x1024 .fp8e5m2) : FVec F S640x1024 .bf16 :=
  dyWide (View.ld x1 (Rect.unit (s := S640x1024) ![0, 0] S640x1024.size inb_S640x1024_S640x1024_0_0))

/-- The result block of a gradient block, its scales and a weight. -/
def outBlk (x1 : Vec F S640x1024 .fp8e5m2) (x2 : Vec F S1x1x640 .f32) (W : S1024x3584.Idx → Elt F .bf16) : S640x3584.Idx → Elt F .bf16 :=
  fun y => colOut (scOf x2) (dyOf x1)
    (View.ld W (rC ⟨(y 1).val / 512, by have := (y 1).isLt; have h : S640x3584.size 1 = 3584 := rfl; omega⟩))
    (ix2 (y 0) ⟨(y 1).val % 512, Nat.mod_lt _ (by omega)⟩)

/-- The weight read through a tile's rectangle. -/
theorem wt_emb (x3 : Vec F S1024x1792 .fp8e4m3) (x4 : Vec F S1024x112 .i32) (x5 : Vec F S1x1024 .f32) (r : Fin 4) (q : ℕ) (hq : q < 28)
    (i : Fin 256) (l : Fin 128) :
    wt x3 x4 x5 ((rW r q hq).emb (ix2 i l)) = wElt x3 x4 x5 ⟨256 * r.val + i.val, by omega⟩ ⟨128 * q + l.val, by omega⟩ := by
  unfold wt
  congr 1
  · apply Fin.ext; show 256 * r.val + 1 * i.val = _; rw [Nat.one_mul]
  · apply Fin.ext; show 128 * q + 1 * l.val = _; rw [Nat.one_mul]

/-- Every index of the weight lies in a tile. -/
theorem tiles_cover (y : S1024x3584.Idx) :
    ∃ (r : Fin 4) (cc : Fin 14) (k : Fin 2) (i : S256x128.Idx), (rW r (2 * cc.val + k.val) (halfTile_lt cc k)).emb i = y := by
  have h0 : (y 0).val < 1024 := (y 0).isLt
  have h1 : (y 1).val < 3584 := (y 1).isLt
  refine ⟨⟨(y 0).val / 256, by omega⟩, ⟨(y 1).val / 256, by omega⟩, ⟨(y 1).val / 128 % 2, by omega⟩,
    ix2 ⟨(y 0).val % 256, by omega⟩ ⟨(y 1).val % 128, by omega⟩, ?_⟩
  funext a
  match a with
  | 0 => apply Fin.ext; show 256 * ((y 0).val / 256) + 1 * ((y 0).val % 256) = (y 0).val; omega
  | 1 => apply Fin.ext; show 128 * (2 * ((y 1).val / 256) + (y 1).val / 128 % 2) + 1 * ((y 1).val % 128) = (y 1).val; omega

/-- Every index of the result block lies in a column block. -/
theorem cols_cover (y : S640x3584.Idx) : ∃ (j : Fin 7) (i : S640x512.Idx), (rO j).emb i = y := by
  have h0 : (y 0).val < 640 := (y 0).isLt
  have h1 : (y 1).val < 3584 := (y 1).isLt
  refine ⟨⟨(y 1).val / 512, by omega⟩, ix2 ⟨(y 0).val, h0⟩ ⟨(y 1).val % 512, by omega⟩, ?_⟩
  funext a
  match a with
  | 0 => apply Fin.ext; show 0 + 1 * (y 0).val = (y 0).val; omega
  | 1 => apply Fin.ext; show 512 * ((y 1).val / 512) + 1 * ((y 1).val % 512) = (y 1).val; omega

/-- The result block read through a column block's rectangle. -/
theorem outBlk_emb (x1 : Vec F S640x1024 .fp8e5m2) (x2 : Vec F S1x1x640 .f32) (W : S1024x3584.Idx → Elt F .bf16) (j : Fin 7) (i : Fin 640) (l : Fin 512) :
    outBlk x1 x2 W ((rO j).emb (ix2 i l)) = colOut (scOf x2) (dyOf x1) (View.ld W (rC j)) (ix2 i l) := by
  have e0 : ((rO j).emb (ix2 i l) 0).val = i.val := by show 0 + 1 * i.val = i.val; omega
  have e1 : ((rO j).emb (ix2 i l) 1).val = 512 * j.val + l.val := by show 512 * j.val + 1 * l.val = _; omega
  have hl : l.val < 512 := l.isLt
  have ej : ∀ h, (⟨((rO j).emb (ix2 i l) 1).val / 512, h⟩ : Fin 7) = j := fun h => Fin.ext (by show _ / 512 = _; rw [e1]; omega)
  have el : ∀ h, (⟨((rO j).emb (ix2 i l) 1).val % 512, h⟩ : Fin 512) = l := fun h => Fin.ext (by show _ % 512 = _; rw [e1]; omega)
  have ei : ((rO j).emb (ix2 i l) 0 : Fin 640) = i := Fin.ext e0
  unfold outBlk
  rw [ej, el]
  exact congrArg (fun a => colOut (scOf x2) (dyOf x1) (View.ld W (rC j)) (ix2 a l)) ei

/-! ## The pieces of the program -/

/-- The product's loads, before any program that takes what they read. -/
theorem wp_productLoads (c : Dev nD) (E : Set ℕ) (arg1 : Memref sig .tc .vmem S640x1024 .fp8e5m2) (arg2 : Memref sig .tc .vmem S1x1x640 .f32)
    (κ : FVec F S640x512 .f32 → FVec F S640x1024 .bf16 → Prog (TpuEff nD τ sig (Elt F) Λ₀ .tc) PUnit) (Q : PUnit → sProp 𝕄)
    (f1 : Buf (Elt F) (arg1.view.loc (c : Thread nD τ))) (f2 : Buf (Elt F) (arg2.view.loc (c : Thread nD τ))) :
    iprop(pts c arg1 f1 ∗ pts c arg2 f2 ∗ ((pts c arg1 f1 ∗ pts c arg2 f2) -∗
        wp frame (wpE (defs₀ (F := F)) Variants.none c none) E (κ (scOf (arg2.view.read (Elt F) f2)) (dyOf (arg1.view.read (Elt F) f1))) Q))
      ⊢ wp frame (wpE (defs₀ (F := F)) Variants.none c none) E (do
          let s₀ : Vec F S1x1x128 .f32 ← Prog.lift (.load arg2 (Rect.unit (s := S1x1x640) ![0, 0, 0] S1x1x128.size inb_S1x1x640_S1x1x128_0_0_0).toLoadRect (View.loadsAt_vmem h_S1x1x128))
          let s₁ : Vec F S1x1x128 .f32 ← Prog.lift (.load arg2 (Rect.unit (s := S1x1x640) ![0, 0, 128] S1x1x128.size inb_S1x1x640_S1x1x128_0_0_128).toLoadRect (View.loadsAt_vmem h_S1x1x128))
          let s₂ : Vec F S1x1x128 .f32 ← Prog.lift (.load arg2 (Rect.unit (s := S1x1x640) ![0, 0, 256] S1x1x128.size inb_S1x1x640_S1x1x128_0_0_256).toLoadRect (View.loadsAt_vmem h_S1x1x128))
          let s₃ : Vec F S1x1x128 .f32 ← Prog.lift (.load arg2 (Rect.unit (s := S1x1x640) ![0, 0, 384] S1x1x128.size inb_S1x1x640_S1x1x128_0_0_384).toLoadRect (View.loadsAt_vmem h_S1x1x128))
          let s₄ : Vec F S1x1x128 .f32 ← Prog.lift (.load arg2 (Rect.unit (s := S1x1x640) ![0, 0, 512] S1x1x128.size inb_S1x1x640_S1x1x128_0_0_512).toLoadRect (View.loadsAt_vmem h_S1x1x128))
          let dy : Vec F S640x1024 .fp8e5m2 ← Prog.lift (.load arg1 (Rect.unit (s := S640x1024) ![0, 0] S640x1024.size inb_S640x1024_S640x1024_0_0).toLoadRect (View.loadsAt_vmem h_S640x1024))
          κ (rowScale s₀ s₁ s₂ s₃ s₄) (dyWide dy)) Q := by
  iintro ⟨H1, H2, Hk⟩
  sl_exec
  iapply Hk
  isplitl [H1]
  · iexact H1
  · iexact H2

/-- The position words' copy, before any program. -/
theorem wp_copy (c : Dev nD) (E : Set ℕ) (arg4 : Memref sig .tc .vmem S1024x112 .i32) (arg8 : Memref sig .tc .vmem S1024x128 .i32)
    (κ : Prog (TpuEff nD τ sig (Elt F) Λ₀ .tc) PUnit) (Q : PUnit → sProp 𝕄)
    (f4 : Buf (Elt F) (arg4.view.loc (c : Thread nD τ))) (f8 : Buf (Elt F) (arg8.view.loc (c : Thread nD τ))) :
    iprop(pts c arg4 f4 ∗ pts c arg8 f8 ∗ (∀ g8, (pts c arg4 f4 ∗ pts c arg8 g8 ∗
          ⌜∀ (o : Fin 1024) (l : Fin 112), arg8.view.read (Elt F) g8 (ix2 o ⟨l.val, by omega⟩) = arg4.view.read (Elt F) f4 (ix2 o l)⌝) -∗
        wp frame (wpE (defs₀ (F := F)) Variants.none c none) E κ Q))
      ⊢ wp frame (wpE (defs₀ (F := F)) Variants.none c none) E (do
          let mw : Vec F S1024x112 .i32 ← Prog.lift (.load arg4 (Rect.unit (s := S1024x112) ![0, 0] S1024x112.size inb_S1024x112_S1024x112_0_0).toLoadRect (View.loadsAt_vmem h_S1024x112))
          let _ : Vec F S1024x112 .i32 ← Prog.lift (.load arg8 (Rect.unit (s := S1024x128) ![0, 0] S1024x112.size inb_S1024x128_S1024x112_0_0).toLoadRect (View.loadsAt_vmem h_S1024x112))
          Prog.lift (.store arg8 (Rect.unit (s := S1024x128) ![0, 0] S1024x112.size inb_S1024x128_S1024x112_0_0) (shapeCast S1024x112 mw shapeCasts_S1024x112_S1024x112) Finset.univ (View.stores_vmem_bits_univ h_S1024x112 rfl) (.inl rfl))
          κ) Q := by
  have h8 : ∀ (o : Fin 1024) (l : Fin 112), arg8.view.read (Elt F)
      (arg8.view.writes (Elt F) f8 [⟨Rect.unit (s := S1024x128) ![0, 0] S1024x112.size inb_S1024x128_S1024x112_0_0,
        shapeCast S1024x112 (View.readAt (Elt F) arg4.view (Rect.unit (s := S1024x112) ![0, 0] S1024x112.size inb_S1024x112_S1024x112_0_0).toLoadRect f4) shapeCasts_S1024x112_S1024x112⟩])
      (ix2 o ⟨l.val, by omega⟩) = arg4.view.read (Elt F) f4 (ix2 o l) := by
    intro o l
    refine (View.read_writes_cons_hit arg8.view f8 _ _ [] (ix2 o l) _ (funext fun b => ?_)).trans ?_
    · match b with
      | 0 => apply Fin.ext; show 0 + 1 * o.val = o.val; omega
      | 1 => apply Fin.ext; show 0 + 1 * l.val = l.val; omega
    · refine (congrFun (shapeCast_self _ _) (ix2 o l)).trans ?_
      refine congrArg (fun z => arg4.view.read (Elt F) f4 z) (funext fun b => ?_)
      match b with
      | 0 => apply Fin.ext; show 0 + 1 * o.val = o.val; omega
      | 1 => apply Fin.ext; show 0 + 1 * l.val = l.val; omega
  iintro ⟨H4, H8, Hk⟩
  sl_exec
  iapply Hk
  isplitl [H4]
  · iexact H4
  isplitl [H8]
  · iexact H8
  ipureintro
  exact h8

/-- The decode of 256 rows adds their 28 tiles. -/
theorem wp_rows (c : Dev nD) (E : Set ℕ) (arg3 : Memref sig .tc .vmem S1024x1792 .fp8e4m3) (arg5 : Memref sig .tc .vmem S1x1024 .f32)
    (arg7 : Memref sig .tc .vmem S1024x3584 .bf16) (harg7 : arg7.IsWhole) (arg8 : Memref sig .tc .vmem S1024x128 .i32) (r : Fin 4)
    (f3 : Buf (Elt F) (arg3.view.loc (c : Thread nD τ))) (f5 : Buf (Elt F) (arg5.view.loc (c : Thread nD τ))) (f8 : Buf (Elt F) (arg8.view.loc (c : Thread nD τ)))
    (x4 : Vec F S1024x112 .i32)
    (h8 : ∀ (o : Fin 1024) (l : Fin 112), arg8.view.read (Elt F) f8 (ix2 o ⟨l.val, by omega⟩) = x4 (ix2 o l))
    (D : S1024x3584.Idx → Prop) :
    iprop(pts c arg3 f3 ∗ pts c arg5 f5 ∗ pts c arg8 f8 ∗ heldOn c arg7 D (wt (arg3.view.read (Elt F) f3) x4 (arg5.view.read (Elt F) f5)))
      ⊢ wp frame (wpE (defs₀ (F := F)) Variants.none c none) E (rows arg3 arg5 arg7 harg7 arg8 r) fun _ =>
          iprop(pts c arg3 f3 ∗ pts c arg5 f5 ∗ pts c arg8 f8 ∗ heldOn c arg7
            (fun y => D y ∨ ∃ (cc : Fin 14) (k : Fin 2) (i : S256x128.Idx), (rW r (2 * cc.val + k.val) (halfTile_lt cc k)).emb i = y)
            (wt (arg3.view.read (Elt F) f3) x4 (arg5.view.read (Elt F) f5))) := by
  unfold rows
  iintro ⟨H3, H5, H8, H7⟩
  iapply (wp_load_rect (m := arg5) (r := rS (2 * r.val) (scaleLo_lt r)) (f := f5) (q := fullShare) Variants.none (c : Thread nD τ) none E (Memref.setOn_access_subset arg5 _ _)) $$ [H5]
  · iexact H5
  iintro H5
  iapply (wp_load_rect (m := arg5) (r := rS (2 * r.val + 1) (scaleHi_lt r)) (f := f5) (q := fullShare) Variants.none (c : Thread nD τ) none E (Memref.setOn_access_subset arg5 _ _)) $$ [H5]
  · iexact H5
  iintro H5
  iapply (wp_load_rect (m := arg8) (r := rM r) (f := f8) (q := fullShare) Variants.none (c : Thread nD τ) none E (Memref.setOn_access_subset arg8 _ _)) $$ [H8]
  · iexact H8
  iintro H8
  have hT : ∀ (cc : Fin 14) (k : Fin 2) (i : S256x128.Idx),
      dec (BitVec.ofNat 32 (64 * k.val)) (BitVec.ofNat 32 (4 * (2 * cc.val + k.val)))
          (extf .f32 (View.readAt (Elt F) arg3.view (rV r cc).toLoadRect f3) bitsLt_fp8e4m3_f32)
          (View.readAt (Elt F) arg8.view (rM r).toLoadRect f8)
          (scaleCols (View.readAt (Elt F) arg5.view (rS (2 * r.val) (scaleLo_lt r)).toLoadRect f5)
            (View.readAt (Elt F) arg5.view (rS (2 * r.val + 1) (scaleHi_lt r)).toLoadRect f5)) i
        = wt (arg3.view.read (Elt F) f3) x4 (arg5.view.read (Elt F) f5) ((rW r (2 * cc.val + k.val) (halfTile_lt cc k)).emb i) := by
    intro cc k i
    obtain ⟨a, l, rfl⟩ : ∃ (a : Fin 256) (l : Fin 128), i = ix2 a l := ⟨i 0, i 1, eq_ix2 i⟩
    rw [wt_emb]
    refine dec_apply (arg3.view.read (Elt F) f3) x4 (arg5.view.read (Elt F) f5) r cc k _ _ _ (fun a l => ?_) (fun a l => ?_) (fun a l => ?_) a l
    · refine congrArg (fun z => FloatOps.extf .f32 bitsLt_fp8e4m3_f32 (arg3.view.read (Elt F) f3 z)) (funext fun b => ?_)
      match b with
      | 0 => apply Fin.ext; show 256 * r.val + 1 * a.val = 256 * r.val + a.val; omega
      | 1 => apply Fin.ext; show 128 * cc.val + 1 * l.val = 128 * cc.val + l.val; omega
    · refine Eq.trans (congrArg (fun z => arg8.view.read (Elt F) f8 z) (funext fun b => ?_)) (h8 ⟨256 * r.val + a.val, by omega⟩ l)
      match b with
      | 0 => apply Fin.ext; show 256 * r.val + 1 * a.val = 256 * r.val + a.val; omega
      | 1 => apply Fin.ext; show 0 + 1 * l.val = l.val; omega
    · refine scaleCols_apply (arg5.view.read (Elt F) f5) r _ _ (fun l => ?_) (fun l => ?_) a l
      · refine congrArg (fun z => arg5.view.read (Elt F) f5 z) (funext fun b => ?_)
        match b with
        | 0 => rfl
        | 1 => apply Fin.ext; show 128 * (2 * r.val) + 1 * l.val = 128 * (2 * r.val) + l.val; omega
      · refine congrArg (fun z => arg5.view.read (Elt F) f5 z) (funext fun b => ?_)
        match b with
        | 0 => rfl
        | 1 => apply Fin.ext; show 128 * (2 * r.val + 1) + 1 * l.val = 128 * (2 * r.val + 1) + l.val; omega
  have hstep := (wp_inOrder c E (step arg3 arg7 harg7 r _ _)
    (fun pre => iprop(pts c arg3 f3 ∗ heldOn c arg7
      (fun y => D y ∨ ∃ cc ∈ pre, ∃ (k : Fin 2) (i : S256x128.Idx), (rW r (2 * cc.val + k.val) (halfTile_lt cc k)).emb i = y)
      (wt (arg3.view.read (Elt F) f3) x4 (arg5.view.read (Elt F) f5))))
    (fun pre cc => (wp_step c E arg3 arg7 harg7 r _ _ cc f3 _ _ (hT cc)).trans (wp_mono _ _ _ fun _ => sep_mono_r (heldOn_mono c arg7 _ _ _ (by
      rintro y (h | ⟨c', hc', h⟩)
      · exact .inl (.inl h)
      · rcases List.mem_append.mp hc' with hc' | hc'
        · exact .inl (.inr ⟨c', hc', h⟩)
        · rw [List.mem_singleton.mp hc'] at h
          exact .inr h))))
    [0, 1, 2, 3, 4, 5, 6, 7, 8, 9, 10, 11, 12, 13] []).trans (wp_mono _ _ _ fun _ => sep_mono_r (heldOn_mono c arg7 _
      (fun y => D y ∨ ∃ (cc : Fin 14) (k : Fin 2) (i : S256x128.Idx), (rW r (2 * cc.val + k.val) (halfTile_lt cc k)).emb i = y) _
      (fun y h => h.imp_right (fun ⟨cc, h⟩ => ⟨cc, (by clear h; revert cc; decide), h⟩))))
  iapply (wp_wand frame (wpE (defs₀ (F := F)) Variants.none (c : Thread nD τ) none) E (Q := fun _ => iprop(pts c arg3 f3 ∗ heldOn c arg7
      (fun y => D y ∨ ∃ (cc : Fin 14) (k : Fin 2) (i : S256x128.Idx), (rW r (2 * cc.val + k.val) (halfTile_lt cc k)).emb i = y)
      (wt (arg3.view.read (Elt F) f3) x4 (arg5.view.read (Elt F) f5))))) $$ [H3 H7]
  · iapply hstep
    isplitl [H3]
    · iexact H3
    · iapply (heldOn_mono c arg7 D (fun y => D y ∨ ∃ cc ∈ ([] : List (Fin 14)), ∃ (k : Fin 2) (i : S256x128.Idx), (rW r (2 * cc.val + k.val) (halfTile_lt cc k)).emb i = y)
        (wt (arg3.view.read (Elt F) f3) x4 (arg5.view.read (Elt F) f5)) (fun y h => h.resolve_right (by rintro ⟨c', hc', -⟩; exact List.not_mem_nil hc')))
      iexact H7
  · iintro %_ ⟨H3, H7⟩
    isplitl [H3]
    · iexact H3
    isplitl [H5]
    · iexact H5
    isplitl [H8]
    · iexact H8
    iexact H7

/-- The decode leaves the whole weight. -/
theorem wp_decode (c : Dev nD) (E : Set ℕ) (arg3 : Memref sig .tc .vmem S1024x1792 .fp8e4m3) (arg4 : Memref sig .tc .vmem S1024x112 .i32) (arg5 : Memref sig .tc .vmem S1x1024 .f32)
    (arg7 : Memref sig .tc .vmem S1024x3584 .bf16) (harg7 : arg7.IsWhole) (arg8 : Memref sig .tc .vmem S1024x128 .i32)
    (f3 : Buf (Elt F) (arg3.view.loc (c : Thread nD τ))) (f4 : Buf (Elt F) (arg4.view.loc (c : Thread nD τ))) (f5 : Buf (Elt F) (arg5.view.loc (c : Thread nD τ)))
    (f7 : Buf (Elt F) (arg7.view.loc (c : Thread nD τ))) (f8 : Buf (Elt F) (arg8.view.loc (c : Thread nD τ))) :
    iprop(pts c arg3 f3 ∗ pts c arg4 f4 ∗ pts c arg5 f5 ∗ pts c arg7 f7 ∗ pts c arg8 f8)
      ⊢ wp frame (wpE (defs₀ (F := F)) Variants.none c none) E (decode arg3 arg4 arg5 arg7 harg7 arg8) fun _ =>
          iprop(pts c arg3 f3 ∗ pts c arg4 f4 ∗ pts c arg5 f5 ∗ heldOn c arg7 (fun _ => True)
            (wt (arg3.view.read (Elt F) f3) (arg4.view.read (Elt F) f4) (arg5.view.read (Elt F) f5)) ∗ ∃ f8, pts c arg8 f8) := by
  unfold decode
  iintro ⟨H3, H4, H5, H7, H8⟩
  iapply (wp_copy c E arg4 arg8 _ _ f4 f8)
  isplitl [H4]
  · iexact H4
  isplitl [H8]
  · iexact H8
  iintro %g8 ⟨H4, H8, %h8⟩
  have hrows := (wp_inOrder c E (rows arg3 arg5 arg7 harg7 arg8)
    (fun pre => iprop(pts c arg3 f3 ∗ pts c arg5 f5 ∗ pts c arg8 g8 ∗ heldOn c arg7
      (fun y => ∃ r ∈ pre, ∃ (cc : Fin 14) (k : Fin 2) (i : S256x128.Idx), (rW r (2 * cc.val + k.val) (halfTile_lt cc k)).emb i = y)
      (wt (arg3.view.read (Elt F) f3) (arg4.view.read (Elt F) f4) (arg5.view.read (Elt F) f5))))
    (fun pre r => (wp_rows c E arg3 arg5 arg7 harg7 arg8 r f3 f5 g8 _ h8 _).trans (wp_mono _ _ _ fun _ =>
      sep_mono_r (sep_mono_r (sep_mono_r (heldOn_mono c arg7 _ _ _ (by
        rintro y ⟨r', hr', h⟩
        rcases List.mem_append.mp hr' with hr' | hr'
        · exact .inl ⟨r', hr', h⟩
        · rw [List.mem_singleton.mp hr'] at h
          exact .inr h))))))
    [0, 1, 2, 3] []).trans (wp_mono _ _ _ fun _ => sep_mono_r (sep_mono_r (sep_mono_r (heldOn_mono c arg7 _ (fun _ => True) _
      (fun y _ => (tiles_cover y).imp fun r h => ⟨(by clear h; revert r; decide), h⟩)))))
  iapply (wp_wand frame (wpE (defs₀ (F := F)) Variants.none (c : Thread nD τ) none) E (Q := fun _ => iprop(pts c arg3 f3 ∗ pts c arg5 f5 ∗ pts c arg8 g8 ∗ heldOn c arg7 (fun _ => True)
      (wt (arg3.view.read (Elt F) f3) (arg4.view.read (Elt F) f4) (arg5.view.read (Elt F) f5))))) $$ [H3 H5 H7 H8]
  · iapply hrows
    isplitl [H3]
    · iexact H3
    isplitl [H5]
    · iexact H5
    isplitl [H8]
    · iexact H8
    unfold heldOn
    iexists f7
    isplitr
    swap; · iexact H7
    ipureintro
    rintro y ⟨r', hr', -⟩
    exact absurd hr' List.not_mem_nil
  · iintro %_ ⟨H3, H5, H8, H7⟩
    isplitl [H3]
    · iexact H3
    isplitl [H4]
    · iexact H4
    isplitl [H5]
    · iexact H5
    isplitl [H7]
    · iexact H7
    · iexists _
      iexact H8

/-- A column block's product adds that block. -/
theorem wp_column (c : Dev nD) (E : Set ℕ) (arg6 : Memref sig .tc .vmem S640x3584 .bf16) (harg6 : arg6.IsWhole)
    (arg7 : Memref sig .tc .vmem S1024x3584 .bf16) (x1 : Vec F S640x1024 .fp8e5m2) (x2 : Vec F S1x1x640 .f32) (j : Fin 7)
    (f7 : Buf (Elt F) (arg7.view.loc (c : Thread nD τ))) (D : S640x3584.Idx → Prop) :
    iprop(pts c arg7 f7 ∗ heldOn c arg6 D (outBlk x1 x2 (arg7.view.read (Elt F) f7)))
      ⊢ wp frame (wpE (defs₀ (F := F)) Variants.none c none) E (column arg6 harg6 arg7 (scOf x2) (dyOf x1) j) fun _ =>
          iprop(pts c arg7 f7 ∗ heldOn c arg6 (fun y => D y ∨ ∃ i, (rO j).emb i = y) (outBlk x1 x2 (arg7.view.read (Elt F) f7))) := by
  unfold column heldOn
  iintro ⟨H7, ⟨%f, %hf, H⟩⟩
  sl_exec
  sl_step
  isplitl [H7]
  · iexact H7
  iexists _; isplitr
  swap; · iexact H
  ipureintro
  refine read_piece arg6.view f (rO j) _ D _ hf fun i => ?_
  obtain ⟨a, l, rfl⟩ : ∃ (a : Fin 640) (l : Fin 512), i = ix2 a l := ⟨i 0, i 1, eq_ix2 i⟩
  exact (outBlk_emb x1 x2 (arg7.view.read (Elt F) f7) j a l).symm

/-- The product leaves the whole result block. -/
theorem wp_product (c : Dev nD) (E : Set ℕ) (arg1 : Memref sig .tc .vmem S640x1024 .fp8e5m2) (arg2 : Memref sig .tc .vmem S1x1x640 .f32)
    (arg6 : Memref sig .tc .vmem S640x3584 .bf16) (harg6 : arg6.IsWhole) (arg7 : Memref sig .tc .vmem S1024x3584 .bf16)
    (f1 : Buf (Elt F) (arg1.view.loc (c : Thread nD τ))) (f2 : Buf (Elt F) (arg2.view.loc (c : Thread nD τ)))
    (f6 : Buf (Elt F) (arg6.view.loc (c : Thread nD τ))) (f7 : Buf (Elt F) (arg7.view.loc (c : Thread nD τ))) :
    iprop(pts c arg1 f1 ∗ pts c arg2 f2 ∗ pts c arg6 f6 ∗ pts c arg7 f7)
      ⊢ wp frame (wpE (defs₀ (F := F)) Variants.none c none) E (product arg1 arg2 arg6 harg6 arg7) fun _ =>
          iprop(pts c arg1 f1 ∗ pts c arg2 f2 ∗ heldOn c arg6 (fun _ => True)
            (outBlk (arg1.view.read (Elt F) f1) (arg2.view.read (Elt F) f2) (arg7.view.read (Elt F) f7)) ∗ pts c arg7 f7) := by
  unfold product
  iintro ⟨H1, H2, H6, H7⟩
  iapply (wp_productLoads c E arg1 arg2 (fun sc dy => inOrder (column arg6 harg6 arg7 sc dy) [0, 1, 2, 3, 4, 5, 6]) _ f1 f2)
  isplitl [H1]
  · iexact H1
  isplitl [H2]
  · iexact H2
  iintro ⟨H1, H2⟩
  have hcols := (wp_inOrder c E (column arg6 harg6 arg7 (scOf (arg2.view.read (Elt F) f2)) (dyOf (arg1.view.read (Elt F) f1)))
    (fun pre => iprop(pts c arg7 f7 ∗ heldOn c arg6 (fun y => ∃ j ∈ pre, ∃ (i : S640x512.Idx), (rO j).emb i = y)
      (outBlk (arg1.view.read (Elt F) f1) (arg2.view.read (Elt F) f2) (arg7.view.read (Elt F) f7))))
    (fun pre j => (wp_column c E arg6 harg6 arg7 _ _ j f7 _).trans (wp_mono _ _ _ fun _ =>
      sep_mono_r (heldOn_mono c arg6 _ _ _ (by
        rintro y ⟨r', hr', h⟩
        rcases List.mem_append.mp hr' with hr' | hr'
        · exact .inl ⟨r', hr', h⟩
        · rw [List.mem_singleton.mp hr'] at h
          exact .inr h))))
    [0, 1, 2, 3, 4, 5, 6] []).trans (wp_mono _ _ _ fun _ => sep_mono_r (heldOn_mono c arg6 _ (fun _ => True) _
      (fun y _ => (cols_cover y).imp fun j h => ⟨(by clear h; revert j; decide), h⟩)))
  iapply (wp_wand frame (wpE (defs₀ (F := F)) Variants.none (c : Thread nD τ) none) E (Q := fun _ => iprop(pts c arg7 f7 ∗ heldOn c arg6 (fun _ => True)
      (outBlk (arg1.view.read (Elt F) f1) (arg2.view.read (Elt F) f2) (arg7.view.read (Elt F) f7))))) $$ [H6 H7]
  · iapply hcols
    isplitl [H7]
    · iexact H7
    unfold heldOn
    iexists f6
    isplitr
    swap; · iexact H6
    ipureintro
    rintro y ⟨r', hr', -⟩
    exact absurd hr' List.not_mem_nil
  · iintro %_ ⟨H7, H6⟩
    isplitl [H1]
    · iexact H1
    isplitl [H2]
    · iexact H2
    isplitl [H6]
    · iexact H6
    · iexact H7

end Cert.KernelIdeal.Body
-- ==== Proof.FrameIdeal.lean ====
module

public import proofs.«01_k».proof.Proof.SpecIdeal
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triples -/

/-- Held at every index is owned at the contents. -/
theorem owns_of_heldOn (c : Dev nD) {S : Shape} {e : EltTy} (M : Memref sig .tc .vmem S e) (T : S.Idx → Elt F e) :
    heldOn c M (fun _ => True) T ⊢ iprop(∃ f, ⌜M.view.read (Elt F) f = T⌝ ∗ pts c M f) := by
  unfold heldOn
  iintro ⟨%f, %hf, H⟩
  iexists f; isplitr
  swap; · iexact H
  ipureintro
  exact funext fun y => hf y trivial

/-- The product on owned memrefs. -/
theorem sound_product (c : Dev nD) (E : Set ℕ) (arg1 : Memref sig .tc .vmem S640x1024 .fp8e5m2) (arg2 : Memref sig .tc .vmem S1x1x640 .f32)
    (arg6 : Memref sig .tc .vmem S640x3584 .bf16) (harg6 : arg6.IsWhole) (arg7 : Memref sig .tc .vmem S1024x3584 .bf16)
    (x1 : Vec F S640x1024 .fp8e5m2) (x2 : Vec F S1x1x640 .f32) (W : Vec F S1024x3584 .bf16) :
    (iprop(owns (c : Thread nD τ) arg1 fullShare x1 ∗ owns (c : Thread nD τ) arg2 fullShare x2 ∗ (∃ d, owns (c : Thread nD τ) arg6 fullShare d) ∗ owns (c : Thread nD τ) arg7 fullShare W) : sProp 𝕄)
      ⊢ wp frame (wpE (defs₀ (F := F)) Variants.none c none) E (product arg1 arg2 arg6 harg6 arg7) fun _ =>
          iprop(owns (c : Thread nD τ) arg1 fullShare x1 ∗ owns (c : Thread nD τ) arg2 fullShare x2 ∗ owns (c : Thread nD τ) arg6 fullShare (outBlk x1 x2 W) ∗ owns (c : Thread nD τ) arg7 fullShare W) := by
  unfold owns
  iintro ⟨⟨%f1, %hf1, H1⟩, ⟨%f2, %hf2, H2⟩, ⟨%d6, %f6, -, H6⟩, ⟨%f7, %hf7, H7⟩⟩
  subst hf1 hf2 hf7
  iapply (wp_wand frame (wpE (defs₀ (F := F)) Variants.none (c : Thread nD τ) none) E (Q := fun _ =>
    iprop(pts c arg1 f1 ∗ pts c arg2 f2 ∗ heldOn c arg6 (fun _ => True)
            (outBlk (arg1.view.read (Elt F) f1) (arg2.view.read (Elt F) f2) (arg7.view.read (Elt F) f7)) ∗ pts c arg7 f7))) $$ [H1 H2 H6 H7]
  · iapply (wp_product c E arg1 arg2 arg6 harg6 arg7 f1 f2 f6 f7)
    isplitl [H1]; · iexact H1
    isplitl [H2]; · iexact H2
    isplitl [H6]; · iexact H6
    iexact H7
  · iintro %_ ⟨H1, H2, H6, H7⟩
    isplitl [H1]
    · iexists f1; isplitr; · ipureintro; rfl
      iexact H1
    isplitl [H2]
    · iexists f2; isplitr; · ipureintro; rfl
      iexact H2
    isplitl [H6]
    · iapply (owns_of_heldOn c arg6 (outBlk (arg1.view.read (Elt F) f1) (arg2.view.read (Elt F) f2) (arg7.view.read (Elt F) f7)))
      iexact H6
    · iexists f7; isplitr; · ipureintro; rfl
      iexact H7

/-- The decode on owned memrefs. -/
theorem sound_decode (c : Dev nD) (E : Set ℕ) (arg3 : Memref sig .tc .vmem S1024x1792 .fp8e4m3) (arg4 : Memref sig .tc .vmem S1024x112 .i32) (arg5 : Memref sig .tc .vmem S1x1024 .f32)
    (arg7 : Memref sig .tc .vmem S1024x3584 .bf16) (harg7 : arg7.IsWhole) (arg8 : Memref sig .tc .vmem S1024x128 .i32)
    (x3 : Vec F S1024x1792 .fp8e4m3) (x4 : Vec F S1024x112 .i32) (x5 : Vec F S1x1024 .f32) :
    (iprop(owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d)) : sProp 𝕄)
      ⊢ wp frame (wpE (defs₀ (F := F)) Variants.none c none) E (decode arg3 arg4 arg5 arg7 harg7 arg8) fun _ =>
          iprop(owns (c : Thread nD τ) arg3 fullShare x3 ∗ owns (c : Thread nD τ) arg4 fullShare x4 ∗ owns (c : Thread nD τ) arg5 fullShare x5 ∗ owns (c : Thread nD τ) arg7 fullShare (wt x3 x4 x5) ∗ (∃ d, owns (c : Thread nD τ) arg8 fullShare d)) := by
  unfold owns
  iintro ⟨⟨%f3, %hf3, H3⟩, ⟨%f4, %hf4, H4⟩, ⟨%f5, %hf5, H5⟩, ⟨%d7, %f7, -, H7⟩, ⟨%d8, %f8, -, H8⟩⟩
  subst hf3 hf4 hf5
  iapply (wp_wand frame (wpE (defs₀ (F := F)) Variants.none (c : Thread nD τ) none) E (Q := fun _ =>
    iprop(pts c arg3 f3 ∗ pts c arg4 f4 ∗ pts c arg5 f5 ∗ heldOn c arg7 (fun _ => True)
            (wt (arg3.view.read (Elt F) f3) (arg4.view.read (Elt F) f4) (arg5.view.read (Elt F) f5)) ∗ ∃ f8, pts c arg8 f8))) $$ [H3 H4 H5 H7 H8]
  · iapply (wp_decode c E arg3 arg4 arg5 arg7 harg7 arg8 f3 f4 f5 f7 f8)
    isplitl [H3]; · iexact H3
    isplitl [H4]; · iexact H4
    isplitl [H5]; · iexact H5
    isplitl [H7]; · iexact H7
    iexact H8
  · iintro %_ ⟨H3, H4, H5, H7, ⟨%g8, H8⟩⟩
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
    · iapply (owns_of_heldOn c arg7 (wt (arg3.view.read (Elt F) f3) (arg4.view.read (Elt F) f4) (arg5.view.read (Elt F) f5)))
      iexact H7
    · iexists _; iexists g8; isplitr; · ipureintro; rfl
      iexact H8

/-- The body at the first point: whatever the scratch held, it leaves the decoded weight there, and the block's product. -/
theorem sound_first (c : Dev nD) (E : Set ℕ) (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)
    (x1 : Vec F S640x1024 .fp8e5m2) (x2 : Vec F S1x1x640 .f32) (x3 : Vec F S1024x1792 .fp8e4m3) (x4 : Vec F S1024x112 .i32) (x5 : Vec F S1x1024 .f32) (h : isFirst i) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outBlk x1 x2 (wt x3 x4 x5)) ∗ owns (c : Thread nD τ) arg7 fullShare (wt x3 x4 x5) ∗ (∃ d, owns (c : Thread nD τ) arg8 fullShare d)) -∗ K ⟨⟩))
      ⊢ wp frame (wpE (defs₀ (F := F)) Variants.none c none) E (cc0_sparse24_dgrad (F := F) i arg1 harg1 arg2 harg2 arg3 harg3 arg4 harg4 arg5 harg5 arg6 harg6 arg7 harg7 arg8 harg8) K := by
  rw [body_first (h := h), wp_bind]
  iintro ⟨H1, H2, H3, H4, H5, H6, H7, H8, Hk⟩
  iapply (wp_wand frame (wpE (defs₀ (F := F)) Variants.none (c : Thread nD τ) none) E (Q := fun _ =>
    iprop(owns (c : Thread nD τ) arg3 fullShare x3 ∗ owns (c : Thread nD τ) arg4 fullShare x4 ∗ owns (c : Thread nD τ) arg5 fullShare x5 ∗ owns (c : Thread nD τ) arg7 fullShare (wt x3 x4 x5) ∗ (∃ d, owns (c : Thread nD τ) arg8 fullShare d)))) $$ [H3 H4 H5 H7 H8]
  · iapply (sound_decode c E arg3 arg4 arg5 arg7 harg7 arg8 x3 x4 x5)
    isplitl [H3]; · iexact H3
    isplitl [H4]; · iexact H4
    isplitl [H5]; · iexact H5
    isplitl [H7]; · iexact H7
    iexact H8
  iintro %_ ⟨H3, H4, H5, H7, H8⟩
  iapply (wp_wand frame (wpE (defs₀ (F := F)) Variants.none (c : Thread nD τ) none) E (Q := fun _ =>
    iprop(owns (c : Thread nD τ) arg1 fullShare x1 ∗ owns (c : Thread nD τ) arg2 fullShare x2 ∗ owns (c : Thread nD τ) arg6 fullShare (outBlk x1 x2 (wt x3 x4 x5)) ∗ owns (c : Thread nD τ) arg7 fullShare (wt x3 x4 x5)))) $$ [H1 H2 H6 H7]
  · iapply (sound_product c E arg1 arg2 arg6 harg6 arg7 x1 x2 (wt x3 x4 x5))
    isplitl [H1]; · iexact H1
    isplitl [H2]; · iexact H2
    isplitl [H6]; · iexact H6
    iexact H7
  iintro %_ ⟨H1, H2, H6, H7⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a later point: the scratch's weight stays, and the block's product is left. -/
theorem sound_later (c : Dev nD) (E : Set ℕ) (i : grid0.Coords) (arg1 : Memref sig .tc .vmem S640x1024 .fp8e5m2) (harg1 : arg1.IsWhole) (arg2 : Memref sig .tc .vmem S1x1x640 .f32) (harg2 : arg2.IsWhole)
    (arg3 : Memref sig .tc .vmem S1024x1792 .fp8e4m3) (harg3 : arg3.IsWhole) (arg4 : Memref sig .tc .vmem S1024x112 .i32) (harg4 : arg4.IsWhole)
    (arg5 : Memref sig .tc .vmem S1x1024 .f32) (harg5 : arg5.IsWhole) (arg6 : Memref sig .tc .vmem S640x3584 .bf16) (harg6 : arg6.IsWhole)
    (arg7 : Memref sig .tc .vmem S1024x3584 .bf16) (harg7 : arg7.IsWhole) (arg8 : Memref sig .tc .vmem S1024x128 .i32) (harg8 : arg8.IsWhole)
    (x1 : Vec F S640x1024 .fp8e5m2) (x2 : Vec F S1x1x640 .f32) (x3 : Vec F S1024x1792 .fp8e4m3) (x4 : Vec F S1024x112 .i32) (x5 : Vec F S1x1024 .f32) (W : Vec F S1024x3584 .bf16) (h : ¬ isFirst i) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare W ∗ (∃ d, owns (c : Thread nD τ) arg8 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outBlk x1 x2 W) ∗ owns (c : Thread nD τ) arg7 fullShare W ∗ (∃ d, owns (c : Thread nD τ) arg8 fullShare d)) -∗ K ⟨⟩))
      ⊢ wp frame (wpE (defs₀ (F := F)) Variants.none c none) E (cc0_sparse24_dgrad (F := F) i arg1 harg1 arg2 harg2 arg3 harg3 arg4 harg4 arg5 harg5 arg6 harg6 arg7 harg7 arg8 harg8) K := by
  rw [body_later (h := h)]
  iintro ⟨H1, H2, H3, H4, H5, H6, H7, H8, Hk⟩
  iapply (wp_wand frame (wpE (defs₀ (F := F)) Variants.none (c : Thread nD τ) none) E (Q := fun _ =>
    iprop(owns (c : Thread nD τ) arg1 fullShare x1 ∗ owns (c : Thread nD τ) arg2 fullShare x2 ∗ owns (c : Thread nD τ) arg6 fullShare (outBlk x1 x2 W) ∗ owns (c : Thread nD τ) arg7 fullShare W))) $$ [H1 H2 H6 H7]
  · iapply (sound_product c E arg1 arg2 arg6 harg6 arg7 x1 x2 W)
    isplitl [H1]; · iexact H1
    isplitl [H2]; · iexact H2
    isplitl [H6]; · iexact H6
    iexact H7
  iintro %_ ⟨H1, H2, H6, H7⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's proof data -/

variable (m : (ℓ : Loc nD τ sig) → Buf (Elt F) ℓ) (ρ : Dev nD → PrngReg)

/-- The first grid point. -/
abbrev t₀ : Fin cfg0.N := ⟨0, by decide⟩

/-- The weight the first point decodes, from the weight's three arrays. -/
def W (c : Dev nD) : Vec F S1024x3584 .bf16 := wt (iblk m c 2 t₀) (iblk m c 3 t₀) (iblk m c 4 t₀)

/-- What the scratch holds after `n` points: anything before the first, the weight from then on. -/
def Φ (c : Dev nD) (n : ℕ) : sProp 𝕄 :=
  if n = 0 then Pipeline.ΦA spec0 c
  else iprop((owns (c : Thread nD τ) (Memref.whole cc0_scratch0) fullShare (W m c)
      ∗ ∃ f, owns (c : Thread nD τ) (Memref.whole cc0_scratch1) fullShare f) ∗ ∃ r, prngReg c r)

/-- The proof data: the arrays as the region finds them; after a point each input's buffer at its block and the result's
    at the block's product with the weight; the scratch as `Φ` says; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (W m c)
  Φ t := Φ m c t.val
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- The result's buffer after a point. -/
theorem after0_5 (c : Dev nD) (t : Fin cfg0.N) : (dats m 0 c).after 5 t = outBlk (iblk m c 0 t) (iblk m c 1 t) (W m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's test of the first point, over the grid. -/
theorem isFirst_iff : ∀ t : Fin cfg0.N, isFirst (grid0.coords t) ↔ t.val = 0 := by decide +kernel

/-- Before the first point the scratch holds anything. -/
theorem Φ_zero (c : Dev nD) : Φ m c 0 = iprop(((∃ f, owns (c : Thread nD τ) (Memref.whole cc0_scratch0) fullShare f)
    ∗ ∃ f, owns (c : Thread nD τ) (Memref.whole cc0_scratch1) fullShare f) ∗ ∃ r, prngReg c r) := by
  unfold Φ
  rw [if_pos rfl]
  unfold Pipeline.ΦA
  rw [scopedRest0_eq]
  simp only [owns_whole]

/-- After a point the scratch holds the weight. -/
theorem Φ_pos (c : Dev nD) (n : ℕ) (h : n ≠ 0) : Φ m c n = iprop((owns (c : Thread nD τ) (Memref.whole cc0_scratch0) fullShare (W m c)
      ∗ ∃ f, owns (c : Thread nD τ) (Memref.whole cc0_scratch1) fullShare f) ∗ ∃ r, prngReg c r) := by
  unfold Φ
  rw [if_neg h]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the first decodes the weight, a later one finds it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φ m c (t.val + 1) from rfl,
    show (dats m 0 c).Φ t.castSucc = Φ m c t.val from rfl,
    show (dats m 0 c).owesAt () t.succ = (dats m 0 c).owesAt () t.castSucc from rfl,
    after0_0, after0_1, after0_2, after0_3, after0_4, after0_5, Φ_pos m c (t.val + 1) (Nat.succ_ne_zero _)]
  by_cases ht : t.val = 0
  · obtain rfl : t = t₀ := Fin.ext ht
    rw [show ((t₀ : Fin cfg0.N).val) = 0 from rfl, Φ_zero]
    iintro ⟨⟨⟨H7, H8⟩, Hr⟩, Ho, ⟨%d0, H0⟩, ⟨%d1, H1⟩, ⟨%d2, H2⟩, ⟨%d3, H3⟩, ⟨%d4, H4⟩, ⟨%d5, H5⟩⟩
    iapply (sound_first c Set.univ _ _ _ _ _ _ _ _ _ _ _ _ _ _ _ _ _ (iblk m c 0 t₀) (iblk m c 1 t₀) (iblk m c 2 t₀) (iblk m c 3 t₀) (iblk m c 4 t₀)
      ((isFirst_iff t₀).mpr rfl) _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    isplitl [H8]; · iexact H8
    iintro ⟨H0, H1, H2, H3, H4, H5, H7, H8⟩
    isplitl [H7 H8 Hr]
    · isplitl [H7 H8]
      · isplitl [H7]
        · iexact H7
        · iexact H8
      · iexact Hr
    isplitl [Ho]; · iexact Ho
    isplitl [H0]; · iexact H0
    isplitl [H1]; · iexact H1
    isplitl [H2]; · iexact H2
    isplitl [H3]; · iexact H3
    isplitl [H4]; · iexact H4
    iexact H5
  · rw [Φ_pos m c t.val ht]
    iintro ⟨⟨⟨H7, H8⟩, Hr⟩, Ho, ⟨%d0, H0⟩, ⟨%d1, H1⟩, ⟨%d2, H2⟩, ⟨%d3, H3⟩, ⟨%d4, H4⟩, ⟨%d5, H5⟩⟩
    iapply (sound_later c Set.univ _ _ _ _ _ _ _ _ _ _ _ _ _ _ _ _ _ (iblk m c 0 t) (iblk m c 1 t) (iblk m c 2 t) (iblk m c 3 t) (iblk m c 4 t)
      (W m c) (fun h => ht ((isFirst_iff t).mp h)) _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    isplitl [H8]; · iexact H8
    iintro ⟨H0, H1, H2, H3, H4, H5, H7, H8⟩
    isplitl [H7 H8 Hr]
    · isplitl [H7 H8]
      · isplitl [H7]
        · iexact H7
        · iexact H8
      · iexact Hr
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch's state is the launch's; -/
theorem Φ_in (c : Dev nD) : Pipeline.ΦA spec0 c ⊢ (dats m 0 c).Φ 0 := by
  rw [show (dats m 0 c).Φ 0 = Φ m c 0 from rfl]
  unfold Φ
  rw [if_pos rfl]

/-- after the last its contents are forgotten. -/
theorem Φ_out (c : Dev nD) : (dats m 0 c).Φ (Fin.last cfg0.N) ⊢ Pipeline.ΦA spec0 c := by
  rw [show (dats m 0 c).Φ (Fin.last cfg0.N) = Φ m c 24 from rfl, Φ_pos m c 24 (by decide),
    show (Pipeline.ΦA spec0 c : sProp 𝕄) = Φ m c 0 from (if_pos rfl).symm, Φ_zero]
  iintro ⟨⟨H7, H8⟩, Hr⟩
  isplitl [H7 H8]
  · isplitl [H7]
    · iexists _; iexact H7
    · iexact H8
  · iexact Hr

/-! ## The run -/

set_option backward.isDefEq.respectTransparency.types false in
set_option maxHeartbeats 800000 in
/-- From any memory with zero counters every execution of @main terminates, each array of the pipeline ends at what the
    proof data give, every other unscoped buffer ends as launched, and every semaphore counter ends at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every execution terminates without undefined behaviour, with the argument arrays unchanged and every semaphore counter
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.Target.lean ====
module

public import Idealize.ShloMosaic.PureOps
public import Idealize.ShloMosaic.Lib.Pointwise

@[expose] public section

noncomputable section

namespace Cert.Target

open Idealize.ShloMosaic

/-! ## The result both programs compute, over the extended reals -/

/-- A stored value `x` if the two bits at place `k` of the metadata word name lane `p`, zero otherwise. -/
def pick (w : BitVec 32) (k p : ℕ) (x : EReal) : EReal :=
  if w.sshiftRight k &&& 3#32 = BitVec.ofNat 32 p then x else 0

/-- The dense weight at row `o` and column `n`: of the two values stored for the group of four columns `n` is in, the one
    whose position is `n % 4` (their sum, should both name it), times the row's scale. -/
def weight (vals : (⟨2, ![1024, 1792]⟩ : Shape).Idx → EReal) (code : (⟨2, ![1024, 112]⟩ : Shape).Idx → BitVec 32)
    (ws : (⟨1, ![1024]⟩ : Shape).Idx → EReal) (o : Fin 1024) (n : Fin 3584) : EReal :=
  (pick (code (ix2 o ⟨n.val / 32, by omega⟩)) (4 * (n.val / 4 % 8)) (n.val % 4) (vals (ix2 o ⟨2 * (n.val / 4), by omega⟩))
    + pick (code (ix2 o ⟨n.val / 32, by omega⟩)) (4 * (n.val / 4 % 8) + 2) (n.val % 4) (vals (ix2 o ⟨2 * (n.val / 4) + 1, by omega⟩)))
    * ws (ix1 o)

/-- One element of the result: row `m` of the gradient against column `n` of the weight, times the scale of the row. -/
def elt (dy : (⟨3, ![12, 1280, 1024]⟩ : Shape).Idx → EReal) (ds : (⟨2, ![12, 1280]⟩ : Shape).Idx → EReal)
    (vals : (⟨2, ![1024, 1792]⟩ : Shape).Idx → EReal) (code : (⟨2, ![1024, 112]⟩ : Shape).Idx → BitVec 32)
    (ws : (⟨1, ![1024]⟩ : Shape).Idx → EReal) (m : Fin 15360) (n : Fin 3584) : EReal :=
  (∑ o : Fin 1024, dy (ix3 ⟨m.val / 1280, by omega⟩ ⟨m.val % 1280, Nat.mod_lt _ (by omega)⟩ o) * weight vals code ws o n)
    * ds (ix2 ⟨m.val / 1280, by omega⟩ ⟨m.val % 1280, Nat.mod_lt _ (by omega)⟩)

/-- The result array. -/
def out (dy : (⟨3, ![12, 1280, 1024]⟩ : Shape).Idx → EReal) (ds : (⟨2, ![12, 1280]⟩ : Shape).Idx → EReal)
    (vals : (⟨2, ![1024, 1792]⟩ : Shape).Idx → EReal) (code : (⟨2, ![1024, 112]⟩ : Shape).Idx → BitVec 32)
    (ws : (⟨1, ![1024]⟩ : Shape).Idx → EReal) : (⟨2, ![15360, 3584]⟩ : Shape).Idx → EReal :=
  fun y => elt dy ds vals code ws (y 0) (y 1)

/-! ## Words -/

/-- A choice on an equality of words. -/
theorem select_eq (a b : BitVec 32) (x : EReal) : Scalar.select (IntOp.cmpi .eq a b) x (0 : EReal) = if a = b then x else 0 := by
  unfold Scalar.select IntOp.cmpi
  by_cases h : a = b
  · simp [h]
  · simp [h, beq_eq_false_iff_ne.mpr h]

/-- An arithmetic shift by less than the width, on either unit. -/
theorem shrsi_lt (u : ArithUnit) (w : BitVec 32) (k : ℕ) (hk : k < 32) : IntOp.shrsi u w (BitVec.ofNat 32 k) = w.sshiftRight k := by
  unfold IntOp.shrsi
  have e : (BitVec.ofNat 32 k).toNat = k := by rw [BitVec.toNat_ofNat]; exact Nat.mod_eq_of_lt (by omega)
  rw [e, if_pos hk, BitVec.sshiftRight', e]

/-- A shift after a shift is one shift by the sum. -/
theorem sshiftRight_add (w : BitVec 32) (a b : ℕ) : (w.sshiftRight a).sshiftRight b = w.sshiftRight (a + b) :=
  (BitVec.sshiftRight_add ..).symm

end Cert.Target

end
-- ==== Proof.ValueIdeal.lean ====
module

public import proofs.«01_k».proof.Proof.FrameIdeal
public import proofs.«01_k».proof.Proof.Target
public import Idealize.ShloMosaic.Lib.Pipeline.Value
public import Idealize.ShloMosaic.Lib.StableHlo.ReadAt

@[expose] public section

set_option maxRecDepth 16384

noncomputable section

namespace Cert.KernelIdeal.Result

open Cert.KernelIdeal Cert.KernelIdeal.Gen Cert.KernelIdeal.Body
open Idealize.ShloMosaic Idealize.ShloMosaic.TcCoe Idealize.SL.Sem
open Idealize.ShloMosaic.Pipeline (Dat)

/-! ## The block at an index -/

/-- The decoded weight is the weight. -/
theorem wElt_apply (x3 : Vec Ideal S1024x1792 .fp8e4m3) (x4 : Vec Ideal S1024x112 .i32) (x5 : Vec Ideal S1x1024 .f32) (o : Fin 1024) (n : Fin 3584) :
    wElt x3 x4 x5 o n = Target.weight x3 x4 (fun k => x5 (ix2 0 (k 0))) o n := by
  pointwise [wElt]
  rw [Target.shrsi_lt .vector _ (4 * (n.val / 4 % 8)) (by omega), Target.shrsi_lt .vector _ 2 (by omega), Target.sshiftRight_add,
    Target.select_eq, Target.select_eq]
  rfl

/-- The widened gradient block is the gradient block. -/
theorem dyOf_apply (x1 : Vec Ideal S640x1024 .fp8e5m2) (i : Fin 640) (o : Fin 1024) : dyOf x1 (ix2 i o) = x1 (ix2 i o) := by
  unfold dyOf
  rw [View.ld_unit_zero (S := S640x1024) (funext fun a => by fin_cases a <;> rfl)]
  pointwise [dyWide]

/-- The output scales of a row. -/
theorem scOf_apply (x2 : Vec Ideal S1x1x640 .f32) (i : Fin 640) (l : Fin 512) : scOf x2 (ix2 i l) = x2 (ix3 0 0 i) := by
  unfold scOf
  have h : ∀ (k : ℕ) (hk : ∀ a, (![0, 0, k] : Fin 3 → ℕ) a + S1x1x128.size a ≤ S1x1x640.size a) (l : Fin 128) (hl : k + l.val < 640),
      View.ld x2 (Rect.unit (s := S1x1x640) ![0, 0, k] S1x1x128.size hk) (ix3 0 0 l) = x2 (ix3 0 0 ⟨k + l.val, hl⟩) := by
    intro k hk l hl
    refine congrArg x2 (funext fun a => Fin.ext ?_)
    match a with
    | ⟨0, _⟩ => rfl
    | ⟨1, _⟩ => rfl
    | ⟨2, _⟩ => show k + 1 * l.val = k + l.val; omega
  refine rowScale_apply (F := Ideal) (fun i => x2 (ix3 0 0 i)) _ _ _ _ _ ?_ ?_ ?_ ?_ ?_ i l
  · exact fun l => h 0 _ l (by omega)
  · exact fun l => h 128 _ l (by omega)
  · exact fun l => h 256 _ l (by omega)
  · exact fun l => h 384 _ l (by omega)
  · exact fun l => h 512 _ l (by omega)

/-- The result block of a grid point at an index. -/
theorem outBlk_apply (x1 : Vec Ideal S640x1024 .fp8e5m2) (x2 : Vec Ideal S1x1x640 .f32) (W : S1024x3584.Idx → Elt Ideal .bf16)
    (i : Fin 640) (n : Fin 3584) :
    outBlk x1 x2 W (ix2 i n) = (∑ o : Fin 1024, (x1 (ix2 i o) : EReal) * W (ix2 o n)) * x2 (ix3 0 0 i) := by
  have e : ∀ h, (⟨512 * (n.val / 512) + n.val % 512, h⟩ : Fin 3584) = n := fun h => Fin.ext (by show 512 * (n.val / 512) + n.val % 512 = n.val; omega)
  show colOut (scOf x2) (dyOf x1) (View.ld W (rC ⟨n.val / 512, _⟩)) (ix2 i ⟨n.val % 512, _⟩) = _
  pointwise [colOut]
  simp only [e, dyOf_apply, scOf_apply]

/-! ## The blocks of a grid point -/

variable (m : (ℓ : Loc nD τ sig) → Buf (Elt Ideal) ℓ) (ρ : Dev nD → PrngReg)

/-- The gradient as the grid finds it. -/
theorem V0_apply (c : Dev nD) (r : Fin 15360) (o : Fin 1024) :
    V m c main_v0 (ix2 r o) = m ((c.tc : Thread nD τ).loc main_arg0) (ix3 (n0 := 12) (n1 := 1280) (n2 := 1024) ⟨r.val / 1280, by omega⟩ ⟨r.val % 1280, Nat.mod_lt _ (by omega)⟩ o) := by
  unfold V
  after_reads_at

/-- The output scales as the grid finds them. -/
theorem V1_apply (c : Dev nD) (t : Fin 24) (i : Fin 640) :
    V m c main_v1 (ix3 t 0 i) = m ((c.tc : Thread nD τ).loc main_arg1) (ix2 (n0 := 12) (n1 := 1280) ⟨(640 * t.val + i.val) / 1280, by omega⟩ ⟨(640 * t.val + i.val) % 1280, Nat.mod_lt _ (by omega)⟩) := by
  unfold V
  after_reads_at
  have e1 : ∀ h, (⟨t.val / 2, h⟩ : Fin 12) = ⟨(640 * t.val + i.val) / 1280, by omega⟩ := fun h => Fin.ext (by show t.val / 2 = (640 * t.val + i.val) / 1280; omega)
  have e2 : ∀ h, (⟨t.val % 2 * 640 + i.val, h⟩ : Fin 1280) = ⟨(640 * t.val + i.val) % 1280, Nat.mod_lt _ (by omega)⟩ :=
    fun h => Fin.ext (by show t.val % 2 * 640 + i.val = (640 * t.val + i.val) % 1280; omega)
  rw [e1, e2]

/-- The weight's scales as the grid finds them. -/
theorem V2_apply (c : Dev nD) (o : Fin 1024) :
    V m c main_v2 (ix2 0 o) = m ((c.tc : Thread nD τ).loc main_arg4) (ix1 (n0 := 1024) o) := by
  unfold V
  after_reads_at

/-- Where each window's block starts, in blocks. -/
theorem starts : ∀ t : Fin cfg0.N, (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- The grid has 24 points. -/
theorem points (t : Fin cfg0.N) : t.val < 24 := t.isLt

/-- A point's gradient block is 640 rows of the gradient. -/
theorem iblk0_apply (c : Dev nD) (t : Fin cfg0.N) (i : Fin 640) (o : Fin 1024) (h : 640 * t.val + i.val < 15360) :
    iblk m c 0 t (ix2 i o) = V m c main_v0 (ix2 (n0 := 15360) (n1 := 1024) ⟨640 * t.val + i.val, h⟩ o) := by
  obtain ⟨⟨e0, e1⟩, -⟩ := starts t
  refine congrArg (V m c main_v0) (funext fun a => Fin.ext ?_)
  match a with
  | ⟨0, _⟩ => show win0_0.index t (0 : Fin 2) * 640 + 1 * i.val = 640 * t.val + i.val; omega
  | ⟨1, _⟩ => show win0_0.index t (1 : Fin 2) * 1024 + 1 * o.val = o.val; omega

/-- A point's scales are a row of the scales. -/
theorem iblk1_apply (c : Dev nD) (t : Fin cfg0.N) (i : Fin 640) :
    iblk m c 1 t (ix3 0 0 i) = V m c main_v1 (ix3 (n0 := 24) (n1 := 1) (n2 := 640) ⟨t.val, points t⟩ 0 i) := by
  obtain ⟨-, ⟨e0, e1, e2⟩, -⟩ := starts t
  refine congrArg (V m c main_v1) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 640 + 1 * i.val = i.val; omega

/-- Every point's stored values are all of them. -/
theorem iblk2_eq (c : Dev nD) (t : Fin cfg0.N) : iblk m c 2 t = m ((c.tc : Thread nD τ).loc main_arg2) := by
  obtain ⟨-, -, ⟨e0, e1⟩, -⟩ := starts t
  rw [← V_main_arg2 m c]
  refine funext fun j => congrArg (V m c main_arg2) (funext fun a => Fin.ext ?_)
  match a with
  | ⟨0, _⟩ => show win0_2.index t (0 : Fin 2) * 1024 + 1 * (j 0).val = (j 0).val; omega
  | ⟨1, _⟩ => show win0_2.index t (1 : Fin 2) * 1792 + 1 * (j 1).val = (j 1).val; omega

/-- Every point's metadata is all of it. -/
theorem iblk3_eq (c : Dev nD) (t : Fin cfg0.N) : iblk m c 3 t = m ((c.tc : Thread nD τ).loc main_arg3) := by
  obtain ⟨-, -, -, ⟨e0, e1⟩, -⟩ := starts t
  rw [← V_main_arg3 m c]
  refine funext fun j => congrArg (V m c main_arg3) (funext fun a => Fin.ext ?_)
  match a with
  | ⟨0, _⟩ => show win0_3.index t (0 : Fin 2) * 1024 + 1 * (j 0).val = (j 0).val; omega
  | ⟨1, _⟩ => show win0_3.index t (1 : Fin 2) * 112 + 1 * (j 1).val = (j 1).val; omega

/-- Every point's weight scales are all of them. -/
theorem iblk4_apply (c : Dev nD) (t : Fin cfg0.N) (o : Fin 1024) : iblk m c 4 t (ix2 0 o) = V m c main_v2 (ix2 (n0 := 1) (n1 := 1024) 0 o) := by
  obtain ⟨-, -, -, -, ⟨e0, e1⟩, -⟩ := starts t
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 1024 + 1 * o.val = o.val; omega

/-! ## The result array -/

/-- The result array as a function of the kernel's arguments. -/
abbrev G (c : Dev nD) : S15360x3584.Idx → EReal :=
  Target.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The decoded weight the scratch holds is the weight. -/
theorem W_apply (c : Dev nD) (o : Fin 1024) (n : Fin 3584) :
    W m c (ix2 o n) = Target.weight (m ((c.tc : Thread nD τ).loc main_arg2)) (m ((c.tc : Thread nD τ).loc main_arg3)) (m ((c.tc : Thread nD τ).loc main_arg4)) o n := by
  show wElt (iblk m c 2 t₀) (iblk m c 3 t₀) (iblk m c 4 t₀) o n = _
  rw [wElt_apply, iblk2_eq, iblk3_eq]
  unfold Target.weight
  refine congrArg _ ?_
  exact (iblk4_apply m c t₀ o).trans (V2_apply m c o)

/-- A point's result block at an index. -/
theorem block_apply (c : Dev nD) (t : Fin cfg0.N) (i : Fin 640) (n : Fin 3584) (h : 640 * t.val + i.val < 15360) :
    outBlk (iblk m c 0 t) (iblk m c 1 t) (W m c) (ix2 i n) = G m c (ix2 (n0 := 15360) (n1 := 3584) ⟨640 * t.val + i.val, h⟩ n) := by
  rw [outBlk_apply, iblk1_apply, V1_apply]
  show _ = Target.elt _ _ _ _ _ ⟨640 * t.val + i.val, h⟩ n
  unfold Target.elt
  refine congrArg₂ (· * ·) (Finset.sum_congr rfl fun o _ => ?_) rfl
  rw [iblk0_apply m c t i o h, V0_apply, W_apply]

/-- What a point writes back is its block of the result. -/
theorem flushed5 (c : Dev nD) (t : Fin cfg0.N) : (dats m 0 c).flushed 5 t = ((cfg0.win 5).blk t).view.read (Elt Ideal) (G m c) := by
  show (cfg0.win 5).cut (grid0.coords t) ((dats m 0 c).after 5 t) = _
  rw [after0_5]
  obtain ⟨-, -, -, -, -, e0, e1⟩ := starts t
  funext j
  have hj : (j 0 : ℕ) < 640 := (j 0).isLt
  have ht := points t
  refine (congrArg (outBlk (iblk m c 0 t) (iblk m c 1 t) (W m c)) (eq_ix2 (n0 := 640) (n1 := 3584) j)).trans
    ((block_apply m c t (j 0) (j 1) (by omega)).trans (congrArg (G m c) (funext fun a => Fin.ext ?_)))
  match a with
  | ⟨0, _⟩ => show 640 * t.val + (j 0).val = win0_5.index t (0 : Fin 2) * 640 + 1 * (j 0).val; omega
  | ⟨1, _⟩ => show (j 1).val = win0_5.index t (1 : Fin 2) * 3584 + 1 * (j 1).val; omega

/-- An index of the result is in a point's block if its row is one of the point's 640. -/
theorem mem_blk (t : Fin cfg0.N) (y : S15360x3584.Idx) (h : 640 * t.val ≤ (y 0 : ℕ) ∧ (y 0 : ℕ) < 640 * t.val + 640) :
    y ∈ ((cfg0.win 5).blk t).view.set := by
  show y ∈ ((View.whole main_v3).slice (win0_5.rect t)).set
  rw [View.set_slice_whole, Rect.mem_set_unit]
  obtain ⟨-, -, -, -, -, e0, e1⟩ := starts t
  have h1 : (y 1 : ℕ) < 3584 := (y 1).isLt
  intro a
  match a with
  | ⟨0, _⟩ =>
    show win0_5.index t (0 : Fin 2) * 640 ≤ (y 0 : ℕ) ∧ (y 0 : ℕ) < win0_5.index t (0 : Fin 2) * 640 + 640
    omega
  | ⟨1, _⟩ =>
    show win0_5.index t (1 : Fin 2) * 3584 ≤ (y 1 : ℕ) ∧ (y 1 : ℕ) < win0_5.index t (1 : Fin 2) * 3584 + 3584
    omega

/-- Every index of the result is in some point's block. -/
theorem cover5 (y : S15360x3584.Idx) : ∃ t : Fin cfg0.N, (cfg0.win 5).flush t = true ∧ y ∈ ((cfg0.win 5).blk t).view.set := by
  have h0 : (y 0 : ℕ) < 15360 := (y 0).isLt
  have hN : cfg0.N = 24 := rfl
  obtain ⟨t, ht⟩ : ∃ t : Fin cfg0.N, t.val = (y 0 : ℕ) / 640 := ⟨⟨(y 0 : ℕ) / 640, by omega⟩, rfl⟩
  exact ⟨t, flush0_5 t, mem_blk t y (by omega)⟩

/-- The result array after the run. -/
theorem final5 (c : Dev nD) : (dats m 0 c).arrAt 5 cfg0.N = G m c :=
  (dats m 0 c).arrAt_eq_of_cover 5 (G m c) (fun t _ => flushed5 m c t) cover5

/-- The kernel's run: the result array holds the result, the arguments are unchanged. -/
theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final5 m c), h.2 c⟩)
    (θ_run_and (run_main m ρ) (frame_of m ρ (dats m) (A_eq m) (run_main m ρ)))

end Cert.KernelIdeal.Result

end
-- ==== Proof.RefValue.lean ====
module

public import proofs.«01_k».proof.Proof.Gen.ReferenceIdeal.Read
public import proofs.«01_k».proof.Proof.Target
public import Idealize.ShloMosaic.Lib.Pipeline.Value

@[expose] public section

set_option maxRecDepth 16384

noncomputable section

namespace Cert.ReferenceIdeal.Result

open Cert.ReferenceIdeal Cert.ReferenceIdeal.Gen Cert.ReferenceIdeal.Read
open Idealize.ShloMosaic Idealize.ShloMosaic.TcCoe Idealize.SL.Sem
open Idealize.ShloMosaic.Pipeline (Dat)

/-! ## The host operations at an index -/

/-- The metadata's positions as the reference lays them out: two to a group of four columns. -/
def places (code : (⟨S1024x112, .i32⟩ : BufTy).Contents (Elt Ideal)) : (⟨S1024x896x2, .i32⟩ : BufTy).Contents (Elt Ideal) :=
  shapeCast _ (andi (Host.shrsi (broadcastInDim S1024x112x16 ![0, 1, 2] bcast_S1024x112x1_S1024x112x16_0_1_2 (broadcastInDim S1024x112x1 ![0, 1] bcast_S1024x112_S1024x112x1_0_1 code)) (broadcastInDim S1024x112x16 ![0, 1, 2] bcast_S1x1x16_S1024x112x16_0_1_2 (broadcastInDim S1x1x16 ![2] bcast_S16_S1x1x16_2 (muli (broadcastInDim S16 ![] bcast_S_S16 (constantI S_ 32 2#32)) (iotaInDim S16 32 0))))) (broadcastInDim S1024x112x16 ![] bcast_S_S1024x112x16 (constantI S_ 32 3#32))) shapeCasts_S1024x112x16_S1024x896x2

/-- A position is two bits of its word. -/
theorem places_apply (code : (⟨S1024x112, .i32⟩ : BufTy).Contents (Elt Ideal)) (o : Fin 1024) (g : Fin 896) (h : Fin 2) :
    places code (ix3 o g h) = BitVec.sshiftRight (code (ix2 o ⟨g.val / 8, by omega⟩)) (4 * (g.val % 8) + 2 * h.val) &&& 3#32 := by
  rw [← Target.shrsi_lt .host _ _ (by omega)]
  pointwise [places]
  have e : IntOp.muli 2#32 (BitVec.ofNat 32 (g.val % 8 * 2 + h.val)) = BitVec.ofNat 32 (4 * (g.val % 8) + 2 * h.val) := by
    unfold IntOp.muli
    apply BitVec.eq_of_toNat_eq
    rw [BitVec.toNat_mul, BitVec.toNat_ofNat, BitVec.toNat_ofNat, BitVec.toNat_ofNat]
    omega
  rw [e]
  rfl

/-- The integer zero converted is zero. -/
theorem sitofp_zero : (FloatOps.sitofp .bf16 0#32 : Ideal .bf16) = 0 := by
  show (((0#32 : BitVec 32).toInt : ℝ) : EReal) = 0
  simp

/-- The reference's weight is the weight. -/
theorem weight_apply (ws : (⟨S1024, .f32⟩ : BufTy).Contents (Elt Ideal)) (vals : (⟨S1024x1792, .bf16⟩ : BufTy).Contents (Elt Ideal))
    (code : (⟨S1024x112, .i32⟩ : BufTy).Contents (Elt Ideal)) (o : Fin 1024) (n : Fin 3584) :
    val_main_v33 (F := Ideal) ws vals (places code) (ix2 o n) = Target.weight vals code ws o n := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13, val_main_v12,
    val_main_call0_v0, val_main_call0_v1, val_main_call0_v2, val_main_call1_v0, val_main_call1_v1, val_main_call1_v2, val_main_c_1, val_main_c_2]
  rw [sitofp_zero, Target.select_eq, Target.select_eq, places_apply, places_apply]
  unfold Target.weight Target.pick
  have e1 : ∀ h, (⟨n.val / 4 / 8, h⟩ : Fin 112) = ⟨n.val / 32, by omega⟩ := fun h => Fin.ext (by show n.val / 4 / 8 = n.val / 32; omega)
  have e2 : ∀ h, (⟨n.val / 4 * 2, h⟩ : Fin 1792) = ⟨2 * (n.val / 4), by omega⟩ := fun h => Fin.ext (Nat.mul_comm ..)
  have e3 : ∀ h, (⟨n.val / 4 * 2 + 1, h⟩ : Fin 1792) = ⟨2 * (n.val / 4) + 1, by omega⟩ := fun h => Fin.ext (congrArg (· + 1) (Nat.mul_comm ..))
  simp only [e1, e2, e3]
  rfl

/-- The reference's result at an index. -/
theorem result_at (dy : (⟨S12x1280x1024, .bf16⟩ : BufTy).Contents (Elt Ideal)) (ds : (⟨S12x1280, .f32⟩ : BufTy).Contents (Elt Ideal))
    (vals : (⟨S1024x1792, .bf16⟩ : BufTy).Contents (Elt Ideal)) (code : (⟨S1024x112, .i32⟩ : BufTy).Contents (Elt Ideal))
    (ws : (⟨S1024, .f32⟩ : BufTy).Contents (Elt Ideal)) (r : Fin 15360) (n : Fin 3584) :
    val_main_v39 (F := Ideal) ds ws dy vals (places code) (ix2 r n) = Target.elt dy ds vals code ws r n := by
  pointwise [val_main_v39, val_main_v38, val_main_v37, val_main_v36, val_main_v35, val_main_v34]
  unfold Target.elt
  simp only [weight_apply]

/-- The reference's result is the result. -/
theorem result_apply (dy : (⟨S12x1280x1024, .bf16⟩ : BufTy).Contents (Elt Ideal)) (ds : (⟨S12x1280, .f32⟩ : BufTy).Contents (Elt Ideal))
    (vals : (⟨S1024x1792, .bf16⟩ : BufTy).Contents (Elt Ideal)) (code : (⟨S1024x112, .i32⟩ : BufTy).Contents (Elt Ideal))
    (ws : (⟨S1024, .f32⟩ : BufTy).Contents (Elt Ideal)) :
    val_main_v39 (F := Ideal) ds ws dy vals (places code) = Target.out dy ds vals code ws :=
  funext fun y => (congrArg _ (eq_ix2 (n0 := 15360) (n1 := 3584) y)).trans (result_at dy ds vals code ws (y 0) (y 1))

/-! ## The widened codes -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The one block of the gradient's widened codes is the whole of them. -/
theorem flushed2 (c : Dev nD) (t : Fin cfg0.N) :
    (dats m 0 c).flushed 2 t = (win0_2.blk t).view.read (Elt Ideal) (V m c main_arg0) := by
  show (cfg0.win 2).cut (grid0.coords t) ((dats m 0 c).after 2 t) = _
  rw [after0_2]
  unfold out0_2
  rw [View.canon_unit_zero hz3, View.ld_unit_zero hz3]
  rfl

/-- The one block of the stored values' widened codes is the whole of them. -/
theorem flushed3 (c : Dev nD) (t : Fin cfg0.N) :
    (dats m 0 c).flushed 3 t = (win0_3.blk t).view.read (Elt Ideal) (V m c main_arg2) := by
  show (cfg0.win 3).cut (grid0.coords t) ((dats m 0 c).after 3 t) = _
  rw [after0_3]
  unfold out0_3
  rw [View.canon_unit_zero hz2, View.ld_unit_zero hz2]
  rfl

/-- Every index of the gradient's widened codes is in the one block. -/
theorem cover2 (i : S12x1280x1024.Idx) : ∃ t : Fin cfg0.N, (cfg0.win 2).flush t = true ∧ i ∈ ((cfg0.win 2).blk t).view.set := by
  have hN : 0 < cfg0.N := by decide
  refine ⟨⟨0, hN⟩, flush0_2 _, ?_⟩
  show i ∈ ((View.whole main_v11_0).slice (win0_2.rect ⟨0, hN⟩)).set
  rw [View.set_slice_whole, Rect.mem_set_unit]
  intro a
  match a with
  | ⟨0, _⟩ => exact ⟨Nat.zero_le _, (i 0).isLt⟩
  | ⟨1, _⟩ => exact ⟨Nat.zero_le _, (i 1).isLt⟩
  | ⟨2, _⟩ => exact ⟨Nat.zero_le _, (i 2).isLt⟩

/-- Every index of the stored values' widened codes is in the one block. -/
theorem cover3 (i : S1024x1792.Idx) : ∃ t : Fin cfg0.N, (cfg0.win 3).flush t = true ∧ i ∈ ((cfg0.win 3).blk t).view.set := by
  have hN : 0 < cfg0.N := by decide
  refine ⟨⟨0, hN⟩, flush0_3 _, ?_⟩
  show i ∈ ((View.whole main_v11_1).slice (win0_3.rect ⟨0, hN⟩)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The gradient's codes widened are the gradient. -/
theorem reg0 (c : Dev nD) : Value.reg_main_v11_0 m c = m ((c.tc : Thread nD τ).loc main_arg0) :=
  ((dats m 0 c).arrAt_eq_of_cover 2 (V m c main_arg0) (fun t _ => flushed2 m c t) cover2).trans (V_main_arg0 m c)

/-- The stored values' codes widened are the stored values. -/
theorem reg1 (c : Dev nD) : Value.reg_main_v11_1 m c = m ((c.tc : Thread nD τ).loc main_arg2) :=
  ((dats m 0 c).arrAt_eq_of_cover 3 (V m c main_arg2) (fun t _ => flushed3 m c t) cover3).trans (V_main_arg2 m c)

/-! ## The run -/

/-- The reference's result array as a function of its arguments. -/
theorem result (c : Dev nD) :
    Pipeline.afterTail₀ cfgs (dats m) 0 (V0 m) [hostOps1, hostOps1_1, hostOps1_2, hostOps1_3, hostOps1_4] c main_v39
      = Target.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (Value.tail_main_v39 (Value.exitV m c)).trans ((val_main_v39_eq (Value.exitV m c)).trans ?_)
  rw [Value.exit_main_arg1, Value.exit_main_arg4, Value.exit_main_v11_1, Value.exit_main_v10, Value.exit_main_v11_0, reg0, reg1]
  exact result_apply _ _ _ _ _

/-- The reference's run: the result array holds the result, the arguments are unchanged. -/
theorem run : θ_run defs (onTc (τ := τ) (main (F := Ideal))) ⟨m, fun _ => 0, ρ⟩ fun r => ∀ c : Dev nD,
      r.2.mem ((c.tc : Thread nD τ).loc main_v39)
        = Target.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((Value.fin_main_v39 m c).symm.trans (result m c)), (h c).2⟩) (Value.run m ρ)

end Cert.ReferenceIdeal.Result

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameIdeal
public import proofs.«01_k».proof.Proof.ValueIdeal
public import proofs.«01_k».proof.Proof.RefValue
public import Idealize.ShloMosaic.Adequacy
public import Idealize.ShloMosaic.Init

@[expose] public section

noncomputable section

namespace Cert.Proof

open Idealize.ShloMosaic Idealize.SL.Sem

/-- From memories that agree on the arguments, the kernel's result array and the reference's end equal, over the
    extended reals: both are the target at those arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Result.G m, Cert.KernelIdeal.Result.run m g, (θ_run _ _ _).mono (fun r h c => ?_) (Cert.ReferenceIdeal.Result.run m' g')⟩
  obtain ⟨h0, h1, h2, h3, h4⟩ := hargs c
  refine ⟨(h c).1.trans ?_, (h c).2⟩
  rw [h0, h1, h2, h3, h4]

/-- Everything the certificate claims. -/
theorem claim : Cert.Claim :=
  ⟨Cert.Kernel.Gen.facts, Cert.KernelIdeal.Gen.facts, Cert.ReferenceIdeal.Gen.facts,
    fun m ρ _ => Cert.Kernel.Body.frame m ρ, fun m ρ _ => Cert.KernelIdeal.Body.frame m ρ, fun m ρ _ => Cert.ReferenceIdeal.Gen.frame m ρ,
    trivial, algebraic⟩

end Cert.Proof

end
